-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "sent" .bf16 0xFF62#16 ⊥

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel)
    ∧ quiescent_KernelIdeal (hKernelIdeal := hKernelIdeal)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_sorted_ids.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x768 : Shape := ⟨2, ![256, 768]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩
abbrev S9999 : Shape := ⟨1, ![9999]⟩

class Facts : Prop where
  bcast_S_S10000 : S_.BroadcastsInDim S10000 (![] : Fin 0 → Fin S10000.rank)
  reducesTo_S10000_S_d0 : S10000.ReducesTo [0] S_
  h_S_ : 0 < S_.numel
  slices_S10000_S9999_0 : S10000.Slices ![0] S9999
  slices_S10000_S9999_1 : S10000.Slices ![1] S9999
  reducesTo_S9999_S_d0 : S9999.ReducesTo [0] S_

variable [Facts]

def fn {F : FTy → Type} [FloatOps F] (main_arg0 : FVec F S10000x256 .f32) (main_arg1 : IVec S2x160000 32) (main_arg2 : IVec S10000 32) (main_arg3 : FVec F S256x256 .f32) (main_arg4 : FVec F S256 .f32) (main_arg5 : FVec F S256x768 .f32) (main_arg6 : FVec F S256 .f32) (main_arg7 : FVec F S128x256 .f32) (main_arg8 : FVec F S128 .f32) (main_arg9 : FVec F S2x128 .f32) (main_arg10 : FVec F S2 .f32) : IVec S_ 1 :=
  let main_c : IVec S_ 32 := constantI S_ 32 0#32
  let main_v0 : IVec S10000 32 := broadcastInDim S10000 ![] bcast_S_S10000 main_c
  let main_v1 : IVec S10000 1 := cmpi .sge main_arg2 main_v0
  let main_c_0 : IVec S_ 1 := constantI S_ 1 1#1
  let main_v2 : IVec S_ 1 := (fun x v => Host.reduce IntOp.andi x v reducesTo_S10000_S_d0 h_S_) main_v1 main_c_0
  let main_v3 : IVec S9999 32 := (extractStridedSlice S9999 ![0] · slices_S10000_S9999_0) main_arg2
  let main_v4 : IVec S9999 32 := (extractStridedSlice S9999 ![1] · slices_S10000_S9999_1) main_arg2
  let main_v5 : IVec S9999 1 := cmpi .sle main_v3 main_v4
  let main_c_1 : IVec S_ 1 := constantI S_ 1 1#1
  let main_v6 : IVec S_ 1 := (fun x v => Host.reduce IntOp.andi x v reducesTo_S9999_S_d0 h_S_) main_v5 main_c_1
  let main_v7 : IVec S_ 1 := andi main_v2 main_v6
  main_v7
-- ==== Kernel.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x768 : Shape := ⟨2, ![256, 768]⟩
abbrev S128x256 : Shape := ⟨2, ![128, 256]⟩
abbrev S128 : Shape := ⟨1, ![128]⟩
abbrev S2x128 : Shape := ⟨2, ![2, 128]⟩
abbrev S2 : Shape := ⟨1, ![2]⟩
abbrev S10000x1 : Shape := ⟨2, ![10000, 1]⟩
abbrev S1x10000 : Shape := ⟨2, ![1, 10000]⟩
abbrev S_ : Shape := ⟨0, ![]⟩
abbrev S8x256 : Shape := ⟨2, ![8, 256]⟩
abbrev S1x256 : Shape := ⟨2, ![1, 256]⟩
abbrev S1x128 : Shape := ⟨2, ![1, 128]⟩
abbrev S1x2 : Shape := ⟨2, ![1, 2]⟩
abbrev S4x256 : Shape := ⟨2, ![4, 256]⟩
abbrev S144x256 : Shape := ⟨2, ![144, 256]⟩
abbrev S64x2 : Shape := ⟨2, ![64, 2]⟩
abbrev S64x1 : Shape := ⟨2, ![64, 1]⟩
abbrev S64x10000 : Shape := ⟨2, ![64, 10000]⟩
abbrev S64 : Shape := ⟨1, ![64]⟩
abbrev S1x64 : Shape := ⟨2, ![1, 64]⟩
abbrev S64x64 : Shape := ⟨2, ![64, 64]⟩
abbrev S64x256 : Shape := ⟨2, ![64, 256]⟩
abbrev S9999x1 : Shape := ⟨2, ![9999, 1]⟩
abbrev S9999x256 : Shape := ⟨2, ![9999, 256]⟩
abbrev S9998x1 : Shape := ⟨2, ![9998, 1]⟩
abbrev S9998x256 : Shape := ⟨2, ![9998, 256]⟩
abbrev S2x256 : Shape := ⟨2, ![2, 256]⟩
abbrev S9996x1 : Shape := ⟨2, ![9996, 1]⟩
abbrev S9996x256 : Shape := ⟨2, ![9996, 256]⟩
abbrev S1250x8x256 : Shape := ⟨3, ![1250, 8, 256]⟩
abbrev S1250x8x1 : Shape := ⟨3, ![1250, 8, 1]⟩
abbrev S1250x256 : Shape := ⟨2, ![1250, 256]⟩
abbrev S1250x1 : Shape := ⟨2, ![1250, 1]⟩
abbrev S30x256 : Shape := ⟨2, ![30, 256]⟩
abbrev S1280x256 : Shape := ⟨2, ![1280, 256]⟩
abbrev S30x1 : Shape := ⟨2, ![30, 1]⟩
abbrev S1280x1 : Shape := ⟨2, ![1280, 1]⟩
abbrev S1279x1 : Shape := ⟨2, ![1279, 1]⟩
abbrev S1279x256 : Shape := ⟨2, ![1279, 256]⟩
abbrev S1278x1 : Shape := ⟨2, ![1278, 1]⟩
abbrev S1278x256 : Shape := ⟨2, ![1278, 256]⟩
abbrev S1276x1 : Shape := ⟨2, ![1276, 1]⟩
abbrev S1276x256 : Shape := ⟨2, ![1276, 256]⟩
abbrev S1272x1 : Shape := ⟨2, ![1272, 1]⟩
abbrev S1272x256 : Shape := ⟨2, ![1272, 256]⟩
abbrev S1264x1 : Shape := ⟨2, ![1264, 1]⟩
abbrev S1264x256 : Shape := ⟨2, ![1264, 256]⟩
abbrev S16x256 : Shape := ⟨2, ![16, 256]⟩
abbrev S1248x1 : Shape := ⟨2, ![1248, 1]⟩
abbrev S1248x256 : Shape := ⟨2, ![1248, 256]⟩
abbrev S32x256 : Shape := ⟨2, ![32, 256]⟩
abbrev S1216x1 : Shape := ⟨2, ![1216, 1]⟩
abbrev S1216x256 : Shape := ⟨2, ![1216, 256]⟩
abbrev S1152x1 : Shape := ⟨2, ![1152, 1]⟩
abbrev S1152x256 : Shape := ⟨2, ![1152, 256]⟩
abbrev S1024x1 : Shape := ⟨2, ![1024, 1]⟩
abbrev S1024x256 : Shape := ⟨2, ![1024, 256]⟩
abbrev S768x1 : Shape := ⟨2, ![768, 1]⟩
abbrev S768x256 : Shape := ⟨2, ![768, 256]⟩
abbrev S512x256 : Shape := ⟨2, ![512, 256]⟩
abbrev S256x1 : Shape := ⟨2, ![256, 1]⟩
abbrev S1x1280 : Shape := ⟨2, ![1, 1280]⟩
abbrev S64x1280 : Shape := ⟨2, ![64, 1280]⟩
abbrev S64x768 : Shape := ⟨2, ![64, 768]⟩
abbrev S64x128 : Shape := ⟨2, ![64, 128]⟩

abbrev nBuf : Space → Nat
  | .hbm => 30
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S2x128, .f32⟩
  | .hbm, ⟨10, _⟩ => ⟨S2, .f32⟩
  | .hbm, ⟨11, _⟩ => ⟨S10000x1, .i32⟩
  | .hbm, ⟨12, _⟩ => ⟨S1x10000, .i32⟩
  | .hbm, ⟨13, _⟩ => ⟨S_, .i32⟩
  | .hbm, ⟨14, _⟩ => ⟨S_, .f32⟩
  | .hbm, ⟨15, _⟩ => ⟨S8x256, .f32⟩
  | .hbm, ⟨16, _⟩ => ⟨S1x256, .f32⟩
  | .hbm, ⟨17, _⟩ => ⟨S1x256, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S1x256, .f32⟩
  | .hbm, ⟨22, _⟩ => ⟨S1x2, .f32⟩
  | .hbm, ⟨23, _⟩ => ⟨S_, .i32⟩
  | .hbm, ⟨24, _⟩ => ⟨S_, .f32⟩
  | .hbm, ⟨25, _⟩ => ⟨S1x256, .f32⟩
  | .hbm, ⟨26, _⟩ => ⟨S_, .f32⟩
  | .hbm, ⟨27, _⟩ => ⟨S4x256, .f32⟩
  | .hbm, ⟨28, _⟩ => ⟨S144x256, .f32⟩
  | .hbm, ⟨29, _⟩ => ⟨S64x2, .f32⟩
  | .local _ .vmem, ⟨0, _⟩ => ⟨S10000x256, .f32⟩
  | .local _ .vmem, ⟨1, _⟩ => ⟨S10000x1, .i32⟩
  | .local _ .vmem, ⟨2, _⟩ => ⟨S1x10000, .i32⟩
  | .local _ .vmem, ⟨3, _⟩ => ⟨S256x256, .f32⟩
  | .local _ .vmem, ⟨4, _⟩ => ⟨S256x768, .f32⟩
  | .local _ .vmem, ⟨5, _⟩ => ⟨S144x256, .f32⟩
  | .local _ .vmem, ⟨6, _⟩ => ⟨S64x2, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_c : Ref sig .tc := ⟨.hbm, 13, rfl⟩
abbrev main_call0_call0_v0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_0 : Ref sig .tc := ⟨.hbm, 19, rfl⟩
abbrev main_call0_call1_v0 : Ref sig .tc := ⟨.hbm, 20, rfl⟩
abbrev main_call0_v6 : Ref sig .tc := ⟨.hbm, 21, rfl⟩
abbrev main_call0_v7 : Ref sig .tc := ⟨.hbm, 22, rfl⟩
abbrev main_call0_c_1 : Ref sig .tc := ⟨.hbm, 23, rfl⟩
abbrev main_call0_call2_v0 : Ref sig .tc := ⟨.hbm, 24, rfl⟩
abbrev main_call0_v8 : Ref sig .tc := ⟨.hbm, 25, rfl⟩
abbrev main_call0_cst : Ref sig .tc := ⟨.hbm, 26, rfl⟩
abbrev main_call0_v9 : Ref sig .tc := ⟨.hbm, 27, rfl⟩
abbrev main_call0_v10 : Ref sig .tc := ⟨.hbm, 28, rfl⟩
abbrev main_v0 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "sent" => some ⊥
  | _ => none
-- ==== ReferenceIdeal.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x768 : Shape := ⟨2, ![256, 768]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x256 : Shape := ⟨2, ![1, 256]⟩
abbrev S1x10000 : Shape := ⟨2, ![1, 10000]⟩
abbrev S64 : Shape := ⟨1, ![64]⟩
abbrev S64x1 : Shape := ⟨2, ![64, 1]⟩
abbrev S64x10000 : Shape := ⟨2, ![64, 10000]⟩
abbrev S_ : Shape := ⟨0, ![]⟩
abbrev S10000x1 : Shape := ⟨2, ![10000, 1]⟩
abbrev S64x256 : Shape := ⟨2, ![64, 256]⟩
abbrev S64x10000x1 : Shape := ⟨3, ![64, 10000, 1]⟩
abbrev S1x10000x256 : Shape := ⟨3, ![1, 10000, 256]⟩
abbrev S64x10000x256 : Shape := ⟨3, ![64, 10000, 256]⟩
abbrev S64x768 : Shape := ⟨2, ![64, 768]⟩
abbrev S768x256 : Shape := ⟨2, ![768, 256]⟩
abbrev S256x128 : Shape := ⟨2, ![256, 128]⟩
abbrev S64x128 : Shape := ⟨2, ![64, 128]⟩
abbrev S1x128 : Shape := ⟨2, ![1, 128]⟩
abbrev S128x2 : Shape := ⟨2, ![128, 2]⟩
abbrev S64x2 : Shape := ⟨2, ![64, 2]⟩
abbrev S1x2 : Shape := ⟨2, ![1, 2]⟩

abbrev nBuf : Space → Nat
  | .hbm => 82
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S2x128, .f32⟩
  | .hbm, ⟨10, _⟩ => ⟨S2, .f32⟩
  | .hbm, ⟨11, _⟩ => ⟨S256x256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S1x10000, .i32⟩
  | .hbm, ⟨17, _⟩ => ⟨S64, .i32⟩
  | .hbm, ⟨18, _⟩ => ⟨S64x1, .i32⟩
  | .hbm, ⟨19, _⟩ => ⟨S64x10000, .i32⟩
  | .hbm, ⟨20, _⟩ => ⟨S64x10000, .i32⟩
  | .hbm, ⟨21, _⟩ => ⟨S64x10000, .i1⟩
  | .hbm, ⟨22, _⟩ => ⟨S_, .i32⟩
  | .hbm, ⟨23, _⟩ => ⟨S64, .i32⟩
  | .hbm, ⟨24, _⟩ => ⟨S_, .i32⟩
  | .hbm, ⟨25, _⟩ => ⟨S_, .i32⟩
  | .hbm, ⟨26, _⟩ => ⟨S10000, .i32⟩
  | .hbm, ⟨27, _⟩ => ⟨S10000, .i32⟩
  | .hbm, ⟨28, _⟩ => ⟨S_, .i32⟩
  | .hbm, ⟨29, _⟩ => ⟨S10000, .i32⟩
  | .hbm, ⟨30, _⟩ => ⟨S10000, .i1⟩
  | .hbm, ⟨31, _⟩ => ⟨S_, .i32⟩
  | .hbm, ⟨32, _⟩ => ⟨S10000, .i32⟩
  | .hbm, ⟨33, _⟩ => ⟨S10000, .i32⟩
  | .hbm, ⟨34, _⟩ => ⟨S10000, .i32⟩
  | .hbm, ⟨35, _⟩ => ⟨S10000x1, .i32⟩
  | .hbm, ⟨36, _⟩ => ⟨S_, .i32⟩
  | .hbm, ⟨37, _⟩ => ⟨S10000, .i32⟩
  | .hbm, ⟨38, _⟩ => ⟨S64, .i32⟩
  | .hbm, ⟨39, _⟩ => ⟨S64, .f32⟩
  | .hbm, ⟨40, _⟩ => ⟨S_, .f32⟩
  | .hbm, ⟨41, _⟩ => ⟨S64x256, .f32⟩
  | .hbm, ⟨42, _⟩ => ⟨S10000x1, .i32⟩
  | .hbm, ⟨43, _⟩ => ⟨S64x256, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64x1, .f32⟩
  | .hbm, ⟨48, _⟩ => ⟨S64x256, .f32⟩
  | .hbm, ⟨49, _⟩ => ⟨S64x256, .f32⟩
  | .hbm, ⟨50, _⟩ => ⟨S64x10000x1, .i1⟩
  | .hbm, ⟨51, _⟩ => ⟨S1x10000x256, .f32⟩
  | .hbm, ⟨52, _⟩ => ⟨S_, .f32⟩
  | .hbm, ⟨53, _⟩ => ⟨S_, .f32⟩
  | .hbm, ⟨54, _⟩ => ⟨S64x10000x256, .i1⟩
  | .hbm, ⟨55, _⟩ => ⟨S64x10000x256, .f32⟩
  | .hbm, ⟨56, _⟩ => ⟨S64x10000x256, .f32⟩
  | .hbm, ⟨57, _⟩ => ⟨S64x10000x256, .f32⟩
  | .hbm, ⟨58, _⟩ => ⟨S_, .f32⟩
  | .hbm, ⟨59, _⟩ => ⟨S64x256, .f32⟩
  | .hbm, ⟨60, _⟩ => ⟨S64x768, .f32⟩
  | .hbm, ⟨61, _⟩ => ⟨S768x256, .f32⟩
  | .hbm, ⟨62, _⟩ => ⟨S64x256, .f32⟩
  | .hbm, ⟨63, _⟩ => ⟨S1x256, .f32⟩
  | .hbm, ⟨64, _⟩ => ⟨S64x256, .f32⟩
  | .hbm, ⟨65, _⟩ => ⟨S64x256, .f32⟩
  | .hbm, ⟨66, _⟩ => ⟨S_, .f32⟩
  | .hbm, ⟨67, _⟩ => ⟨S64x256, .f32⟩
  | .hbm, ⟨68, _⟩ => ⟨S64x256, .f32⟩
  | .hbm, ⟨69, _⟩ => ⟨S256x128, .f32⟩
  | .hbm, ⟨70, _⟩ => ⟨S64x128, .f32⟩
  | .hbm, ⟨71, _⟩ => ⟨S1x128, .f32⟩
  | .hbm, ⟨72, _⟩ => ⟨S64x128, .f32⟩
  | .hbm, ⟨73, _⟩ => ⟨S64x128, .f32⟩
  | .hbm, ⟨74, _⟩ => ⟨S_, .f32⟩
  | .hbm, ⟨75, _⟩ => ⟨S64x128, .f32⟩
  | .hbm, ⟨76, _⟩ => ⟨S64x128, .f32⟩
  | .hbm, ⟨77, _⟩ => ⟨S128x2, .f32⟩
  | .hbm, ⟨78, _⟩ => ⟨S64x2, .f32⟩
  | .hbm, ⟨79, _⟩ => ⟨S1x2, .f32⟩
  | .hbm, ⟨80, _⟩ => ⟨S64x2, .f32⟩
  | .hbm, ⟨81, _⟩ => ⟨S64x2, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call3_cst : Ref sig .tc := ⟨.hbm, 74, rfl⟩
abbrev main_call3_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== Proof.IdealRun.lean ====
/- The launch of KernelIdeal: @main runs eighteen host operations (the packing of the small parameters into one array) and
   then its one region, whose grid is a single point. This module runs them, says what the output buffer holds
   afterwards (`out0_6` of the six staged arrays), and that every argument array ends as it was launched. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: after the host operations. -/
abbrev V (c : Dev nD) (b : Ref sig .tc) : Buf (Elt F) ((c : Thread nD τ).loc b) :=
  StableHlo.after (List.flatten [hostOps0]) (fun b => m (c, b)) b

/-- No host operation makes a buffer of its own. -/
theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The buffers the host operations write. -/
abbrev written : List (Ref sig .tc) := [main_call0_v0, main_call0_v1, main_call0_c, main_call0_call0_v0, main_call0_v2,
  main_call0_v3, main_call0_v4, main_call0_v5, main_call0_c_0, main_call0_call1_v0, main_call0_v6, main_call0_v7,
  main_call0_c_1, main_call0_call2_v0, main_call0_v8, main_call0_cst, main_call0_v9, main_call0_v10]

/-- A buffer the host operations do not write is, at the region, as it was launched. -/
theorem V_kept (c : Dev nD) (r : Ref sig .tc) (hr : ∀ s ∈ written, r ≠ s) : V m c r = m ((c : Thread nD τ).loc r) :=
  StableHlo.after_of_forall_not_mem (b := Proc.devRef .tc r) _ _ (List.forall_iff_forall_mem.mp (by
    simp only [hostOps0, List.flatten_cons, List.flatten_nil, List.append_nil, List.Forall, StableHlo.nullary_writes,
      StableHlo.unary_writes, StableHlo.binary_writes, StableHlo.reshape_writes, StableHlo.nary_writes, Finset.mem_singleton]
    repeat' apply And.intro
    all_goals exact StableHlo.devRef_ne_of_ne (hr _ (by simp only [written, List.mem_cons, true_or, or_true]))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at the body, for any proof data over these arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at the body, for any proof data over these arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at the body, for any proof data over these arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at the body, for any proof data over these arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at the body, for any proof data over these arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at the body, for any proof data over these arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S144x256 := Rect.unit (s := S144x256) ![0, 0] S144x256.size inb_S144x256_S144x256_0_0
abbrev r0_1 : Rect S10000x256 := Rect.unit (s := S10000x256) ![0, 0] S10000x256.size inb_S10000x256_S10000x256_0_0
abbrev r0_2 : Rect S256x256 := Rect.unit (s := S256x256) ![0, 0] S256x256.size inb_S256x256_S256x256_0_0
abbrev r0_3 : Rect S10000x1 := Rect.unit (s := S10000x1) ![0, 0] S10000x1.size inb_S10000x1_S10000x1_0_0
abbrev r0_4 : Rect S1x10000 := Rect.unit (s := S1x10000) ![0, 0] S1x10000.size inb_S1x10000_S1x10000_0_0
abbrev r0_5 : Rect S256x768 := Rect.unit (s := S256x768) ![0, 0] S256x768.size inb_S256x768_S256x768_0_0
abbrev r0_6 : Rect S64x2 := Rect.unit (s := S64x2) ![0, 0] S64x2.size inb_S64x2_S64x2_0_0

/-! ## What the body leaves in the output window's buffer -/

/-- A value the body binds: the ids down a column. -/
def k0_pay31 (x0 : Vec F S10000x256 .f32) (x1 : Vec F S10000x1 .i32) (x2 : Vec F S1x10000 .i32) (x3 : Vec F S256x256 .f32) (x4 : Vec F S256x768 .f32) (x5 : Vec F S144x256 .f32) : IVec S10000x1 32 :=
  k0_pay4 (View.ld x1 r0_3)
/-- A value the body binds: the segment counts. -/
def k0_pay32 (x0 : Vec F S10000x256 .f32) (x1 : Vec F S10000x1 .i32) (x2 : Vec F S1x10000 .i32) (x3 : Vec F S256x256 .f32) (x4 : Vec F S256x768 .f32) (x5 : Vec F S144x256 .f32) : FVec F S64x1 .f32 :=
  k0_pay6 (View.ld x2 r0_4)
/-- A value the body binds: the rows after the first step, but the first. -/
def k0_pay33 (x0 : Vec F S10000x256 .f32) (x1 : Vec F S10000x1 .i32) (x2 : Vec F S1x10000 .i32) (x3 : Vec F S256x256 .f32) (x4 : Vec F S256x768 .f32) (x5 : Vec F S144x256 .f32) : FVec F S9999x256 .bf16 :=
  k0_pay11 (View.ld x5 r0_0) (View.ld x0 r0_1) (View.ld x3 r0_2) (View.ld x1 r0_3)
/-- A value the body binds: the first row. -/
def k0_pay34 (x0 : Vec F S10000x256 .f32) (x1 : Vec F S10000x1 .i32) (x2 : Vec F S1x10000 .i32) (x3 : Vec F S256x256 .f32) (x4 : Vec F S256x768 .f32) (x5 : Vec F S144x256 .f32) : FVec F S1x256 .bf16 :=
  k0_pay12 (View.ld x5 r0_0) (View.ld x0 r0_1) (View.ld x3 r0_2)
/-- A value the body binds: the tails. -/
def k0_pay35 (x0 : Vec F S10000x256 .f32) (x1 : Vec F S10000x1 .i32) (x2 : Vec F S1x10000 .i32) (x3 : Vec F S256x256 .f32) (x4 : Vec F S256x768 .f32) (x5 : Vec F S144x256 .f32) : FVec F S1280x256 .bf16 :=
  k0_pay15 (k0_pay31 x0 x1 x2 x3 x4 x5) (k0_pay33 x0 x1 x2 x3 x4 x5) (k0_pay34 x0 x1 x2 x3 x4 x5)
/-- A value the body binds: the ids of the tails. -/
def k0_pay36 (x0 : Vec F S10000x256 .f32) (x1 : Vec F S10000x1 .i32) (x2 : Vec F S1x10000 .i32) (x3 : Vec F S256x256 .f32) (x4 : Vec F S256x768 .f32) (x5 : Vec F S144x256 .f32) : IVec S1280x1 32 :=
  k0_pay16 (k0_pay31 x0 x1 x2 x3 x4 x5)
/-- A value the body binds: which tails agree with the one before. -/
def k0_pay37 (x0 : Vec F S10000x256 .f32) (x1 : Vec F S10000x1 .i32) (x2 : Vec F S1x10000 .i32) (x3 : Vec F S256x256 .f32) (x4 : Vec F S256x768 .f32) (x5 : Vec F S144x256 .f32) : IVec S1279x1 1 :=
  k0_pay17 (k0_pay31 x0 x1 x2 x3 x4 x5)
/-- A value the body binds: tails. -/
def k0_pay38 (x0 : Vec F S10000x256 .f32) (x1 : Vec F S10000x1 .i32) (x2 : Vec F S1x10000 .i32) (x3 : Vec F S256x256 .f32) (x4 : Vec F S256x768 .f32) (x5 : Vec F S144x256 .f32) : FVec F S1279x256 .bf16 :=
  k0_pay18 (k0_pay31 x0 x1 x2 x3 x4 x5) (k0_pay33 x0 x1 x2 x3 x4 x5) (k0_pay34 x0 x1 x2 x3 x4 x5)
/-- A value the body binds: tails one down. -/
def k0_pay39 (x0 : Vec F S10000x256 .f32) (x1 : Vec F S10000x1 .i32) (x2 : Vec F S1x10000 .i32) (x3 : Vec F S256x256 .f32) (x4 : Vec F S256x768 .f32) (x5 : Vec F S144x256 .f32) : FVec F S1279x256 .bf16 :=
  k0_pay19 (k0_pay31 x0 x1 x2 x3 x4 x5) (k0_pay33 x0 x1 x2 x3 x4 x5) (k0_pay34 x0 x1 x2 x3 x4 x5)

/-- The output buffer after the body, from the six input blocks: one store, of the whole buffer. -/
def out0_6 (x0 : Vec F S10000x256 .f32) (x1 : Vec F S10000x1 .i32) (x2 : Vec F S1x10000 .i32) (x3 : Vec F S256x256 .f32) (x4 : Vec F S256x768 .f32) (x5 : Vec F S144x256 .f32) : Vec F S64x2 .f32 :=
  View.canon [⟨r0_6, k0_pay1 (k0_pay2 (View.ld x5 r0_0)) (k0_pay30 (k0_pay5 (View.ld x2 r0_4)) (k0_pay32 x0 x1 x2 x3 x4 x5) (k0_pay7 (F := F)) (k0_pay9 (View.ld x5 r0_0) (View.ld x0 r0_1) (View.ld x3 r0_2) (View.ld x2 r0_4)) (k0_pay26 (k0_pay36 x0 x1 x2 x3 x4 x5) (k0_pay24 (k0_pay36 x0 x1 x2 x3 x4 x5) (k0_pay21 (k0_pay35 x0 x1 x2 x3 x4 x5) (k0_pay36 x0 x1 x2 x3 x4 x5) (k0_pay37 x0 x1 x2 x3 x4 x5) (k0_pay38 x0 x1 x2 x3 x4 x5) (k0_pay39 x0 x1 x2 x3 x4 x5) (k0_pay20 (F := F))) (k0_pay22 (k0_pay35 x0 x1 x2 x3 x4 x5) (k0_pay36 x0 x1 x2 x3 x4 x5) (k0_pay37 x0 x1 x2 x3 x4 x5) (k0_pay38 x0 x1 x2 x3 x4 x5) (k0_pay39 x0 x1 x2 x3 x4 x5) (k0_pay20 (F := F))) (k0_pay23 (k0_pay35 x0 x1 x2 x3 x4 x5) (k0_pay36 x0 x1 x2 x3 x4 x5) (k0_pay37 x0 x1 x2 x3 x4 x5) (k0_pay38 x0 x1 x2 x3 x4 x5) (k0_pay39 x0 x1 x2 x3 x4 x5) (k0_pay20 (F := F)))) (k0_pay25 (k0_pay36 x0 x1 x2 x3 x4 x5))) (k0_pay27 (k0_pay32 x0 x1 x2 x3 x4 x5) (k0_pay8 (View.ld x2 r0_4)) (k0_pay13 (k0_pay31 x0 x1 x2 x3 x4 x5) (k0_pay33 x0 x1 x2 x3 x4 x5) (k0_pay34 x0 x1 x2 x3 x4 x5))) (Scalar.select (Scalar.cmpi .eq 8#32 0#32) 1#32 8#32) k0_pay28 k0_pay29) (View.ld x4 r0_5) (constant S64x256 .f32 0x00000000#32)⟩]

/-- Its stores tile the buffer (checked by evaluation), so they cover it. -/
theorem cover0_6 (p0 : Vec F S64x2 .f32) (y : S64x2.Idx) :
    ∃ pc ∈ ([⟨r0_6, p0⟩] : List (View.Piece (Elt F) S64x2 .f32)), y ∈ pc.1.set :=
  View.cover_of_tiled [⟨r0_6, p0⟩] S64x2.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S10000x256 .f32) (harg0 : arg0.IsWhole) (arg1 : Memref sig .tc .vmem S10000x1 .i32) (harg1 : arg1.IsWhole) (arg2 : Memref sig .tc .vmem S1x10000 .i32) (harg2 : arg2.IsWhole) (arg3 : Memref sig .tc .vmem S256x256 .f32) (harg3 : arg3.IsWhole) (arg4 : Memref sig .tc .vmem S256x768 .f32) (harg4 : arg4.IsWhole) (arg5 : Memref sig .tc .vmem S144x256 .f32) (harg5 : arg5.IsWhole) (arg6 : Memref sig .tc .vmem S64x2 .f32) (harg6 : arg6.IsWhole)
    (x0 : Vec F S10000x256 .f32) (x1 : Vec F S10000x1 .i32) (x2 : Vec F S1x10000 .i32) (x3 : Vec F S256x256 .f32) (x4 : Vec F S256x768 .f32) (x5 : Vec F S144x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__fused_kernel arg0 harg0 arg1 harg1 arg2 harg2 arg3 harg3 arg4 harg4 arg5 harg5 arg6 harg6) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_6 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: every run ends with each array of the pipeline at what the proof data says, every other buffer as the
    region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the run leaves -/

/-- The run leaves an argument that no window stages and no host operation writes as it was launched; a staged input is
    never written back. Together with the output's array. -/
theorem run_value : θ_run defs (onTc (τ := τ) (main (F := F))) ⟨m, fun _ => 0, ρ⟩ (fun r => (∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1 c).1 6,
      ((h.1 c).1 0).trans (((dats m 0 c).arrAt_in 0 rfl _).trans ((A_eq m c 0).trans (V_kept m c main_arg0 (by decide)))),
      ((h.1 c).2 main_arg1 (Pipeline.mem_restRefs_of main_arg1 (by decide) (by decide))).trans (V_kept m c main_arg1 (by decide)),
      ((h.1 c).2 main_arg2 (Pipeline.mem_restRefs_of main_arg2 (by decide) (by decide))).trans (V_kept m c main_arg2 (by decide)),
      ((h.1 c).1 3).trans (((dats m 0 c).arrAt_in 3 rfl _).trans ((A_eq m c 3).trans (V_kept m c main_arg3 (by decide)))),
      ((h.1 c).2 main_arg4 (Pipeline.mem_restRefs_of main_arg4 (by decide) (by decide))).trans (V_kept m c main_arg4 (by decide)),
      ((h.1 c).1 4).trans (((dats m 0 c).arrAt_in 4 rfl _).trans ((A_eq m c 4).trans (V_kept m c main_arg5 (by decide)))),
      ((h.1 c).2 main_arg6 (Pipeline.mem_restRefs_of main_arg6 (by decide) (by decide))).trans (V_kept m c main_arg6 (by decide)),
      ((h.1 c).2 main_arg7 (Pipeline.mem_restRefs_of main_arg7 (by decide) (by decide))).trans (V_kept m c main_arg7 (by decide)),
      ((h.1 c).2 main_arg8 (Pipeline.mem_restRefs_of main_arg8 (by decide) (by decide))).trans (V_kept m c main_arg8 (by decide)),
      ((h.1 c).2 main_arg9 (Pipeline.mem_restRefs_of main_arg9 (by decide) (by decide))).trans (V_kept m c main_arg9 (by decide)),
      ((h.1 c).2 main_arg10 (Pipeline.mem_restRefs_of main_arg10 (by decide) (by decide))).trans (V_kept m c main_arg10 (by decide))⟩, h.2⟩)
    (run_main_quiescent m ρ)

/-- The frame: the run ends, every argument array is as it was launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (run_value m ρ)

end Cert.KernelIdeal.Run

end
-- ==== Proof.Pack.lean ====
module

public import proofs.«01_k».proof.Proof.IdealRun
public import Idealize.ShloMosaic.Lib.Pointwise
public import Idealize.ShloMosaic.PureOps.Ideal

@[expose] public section

set_option maxRecDepth 16384

/-! # What the host operations before the kernel leave: the ids twice and the packed small parameters -/

noncomputable section

namespace Cert.Proof.Pack

open Idealize.ShloMosaic Idealize.ShloMosaic.TcCoe Idealize.ShloMosaic.Tactic Cert.KernelIdeal Cert.KernelIdeal.Gen Cert.KernelIdeal.Run

/-- The zero the padding is filled with. -/
def fill : FVec Ideal S_ .f32 := sitofp .f32 (constantI S_ 32 0#32)

/-- The seven pieces of the packed parameters, one under the other. -/
def stack (x0 : FVec Ideal S128x256 .f32) (x1 : FVec Ideal S8x256 .f32) (x2 x3 x4 x5 : FVec Ideal S1x256 .f32) (x6 : FVec Ideal S4x256 .f32) :
    FVec Ideal S144x256 .f32 :=
  concatenate S144x256 0 [⟨S128x256, x0⟩, ⟨S8x256, x1⟩, ⟨S1x256, x2⟩, ⟨S1x256, x3⟩, ⟨S1x256, x4⟩, ⟨S1x256, x5⟩, ⟨S4x256, x6⟩]
    concatenates_S128x256_S8x256_S1x256_S1x256_S1x256_S1x256_S4x256_S144x256_d0

/-- The packed parameters: the second layer's matrix, the third layer's matrix padded, the four biases, four rows of zeros. -/
def pack (a7 : FVec Ideal S128x256 .f32) (a9 : FVec Ideal S2x128 .f32) (a4 a6 : FVec Ideal S256 .f32) (a8 : FVec Ideal S128 .f32) (a10 : FVec Ideal S2 .f32) :
    FVec Ideal S144x256 .f32 :=
  stack a7 (pad S8x256 ![0, 0] ![6, 128] ![0, 0] a9 fill pads_S2x128_S8x256_060_01280 h_S_)
    (shapeCast S1x256 a4 shapeCasts_S256_S1x256) (shapeCast S1x256 a6 shapeCasts_S256_S1x256)
    (pad S1x256 ![0, 0] ![0, 128] ![0, 0] (shapeCast S1x128 a8 shapeCasts_S128_S1x128) fill pads_S1x128_S1x256_000_01280 h_S_)
    (pad S1x256 ![0, 0] ![0, 254] ![0, 0] (shapeCast S1x2 a10 shapeCasts_S2_S1x2) fill pads_S1x2_S1x256_000_02540 h_S_)
    (broadcastInDim S4x256 ![] bcast_S_S4x256 (constant S_ .f32 0x00000000#32))

variable (m : (ℓ : Loc nD τ sig) → Buf (Elt Ideal) ℓ)

set_option maxHeartbeats 4000000 in
/-- The ids down a column. -/
theorem V_column (c : Dev nD) : V m c main_call0_v0 = shapeCast S10000x1 (m ((c : Thread nD τ).loc main_arg2)) shapeCasts_S10000_S10000x1 := by
  show StableHlo.after (hostOps0 (F := Ideal)) (fun b => m (c, b)) (Proc.devRef .tc main_call0_v0) = _
  after_results
  rfl

set_option maxHeartbeats 4000000 in
/-- The ids along a row. -/
theorem V_row (c : Dev nD) : V m c main_call0_v1 = shapeCast S1x10000 (m ((c : Thread nD τ).loc main_arg2)) shapeCasts_S10000_S1x10000 := by
  show StableHlo.after (hostOps0 (F := Ideal)) (fun b => m (c, b)) (Proc.devRef .tc main_call0_v1) = _
  after_results
  rfl

/-- The second layer's matrix, before the stacking. -/
theorem piece0 (c : Dev nD) : StableHlo.after ((hostOps0 (F := Ideal)).take 17) (fun b => m (c, b)) (Proc.devRef .tc main_arg7) = (m ((c : Thread nD τ).loc main_arg7)) := by
  show StableHlo.after [_, _, _, _, _, _, _, _, _, _, _, _, _, _, _, _, _] _ _ = _
  after_results

/-- The third layer's matrix padded, before the stacking. -/
theorem piece1 (c : Dev nD) : StableHlo.after ((hostOps0 (F := Ideal)).take 17) (fun b => m (c, b)) (Proc.devRef .tc main_call0_v2) = pad S8x256 ![0, 0] ![6, 128] ![0, 0] (m ((c : Thread nD τ).loc main_arg9)) fill pads_S2x128_S8x256_060_01280 h_S_ := by
  show StableHlo.after [_, _, _, _, _, _, _, _, _, _, _, _, _, _, _, _, _] _ _ = _
  after_results
  rfl

/-- The row features' bias as a row. -/
theorem piece2 (c : Dev nD) : StableHlo.after ((hostOps0 (F := Ideal)).take 17) (fun b => m (c, b)) (Proc.devRef .tc main_call0_v3) = shapeCast S1x256 (m ((c : Thread nD τ).loc main_arg4)) shapeCasts_S256_S1x256 := by
  show StableHlo.after [_, _, _, _, _, _, _, _, _, _, _, _, _, _, _, _, _] _ _ = _
  after_results
  rfl

/-- The first layer's bias as a row. -/
theorem piece3 (c : Dev nD) : StableHlo.after ((hostOps0 (F := Ideal)).take 17) (fun b => m (c, b)) (Proc.devRef .tc main_call0_v4) = shapeCast S1x256 (m ((c : Thread nD τ).loc main_arg6)) shapeCasts_S256_S1x256 := by
  show StableHlo.after [_, _, _, _, _, _, _, _, _, _, _, _, _, _, _, _, _] _ _ = _
  after_results
  rfl

/-- The second layer's bias as a padded row. -/
theorem piece4 (c : Dev nD) : StableHlo.after ((hostOps0 (F := Ideal)).take 17) (fun b => m (c, b)) (Proc.devRef .tc main_call0_v6) = pad S1x256 ![0, 0] ![0, 128] ![0, 0] (shapeCast S1x128 (m ((c : Thread nD τ).loc main_arg8)) shapeCasts_S128_S1x128) fill pads_S1x128_S1x256_000_01280 h_S_ := by
  show StableHlo.after [_, _, _, _, _, _, _, _, _, _, _, _, _, _, _, _, _] _ _ = _
  after_results
  rfl

/-- The third layer's bias as a padded row. -/
theorem piece5 (c : Dev nD) : StableHlo.after ((hostOps0 (F := Ideal)).take 17) (fun b => m (c, b)) (Proc.devRef .tc main_call0_v8) = pad S1x256 ![0, 0] ![0, 254] ![0, 0] (shapeCast S1x2 (m ((c : Thread nD τ).loc main_arg10)) shapeCasts_S2_S1x2) fill pads_S1x2_S1x256_000_02540 h_S_ := by
  show StableHlo.after [_, _, _, _, _, _, _, _, _, _, _, _, _, _, _, _, _] _ _ = _
  after_results
  rfl

/-- The rows of zeros. -/
theorem piece6 (c : Dev nD) : StableHlo.after ((hostOps0 (F := Ideal)).take 17) (fun b => m (c, b)) (Proc.devRef .tc main_call0_v9)
    = (broadcastInDim S4x256 ![] bcast_S_S4x256 (constant (F := Ideal) S_ .f32 0x00000000#32) : FVec Ideal S4x256 .f32) := by
  show StableHlo.after [_, _, _, _, _, _, _, _, _, _, _, _, _, _, _, _, _] _ _ = _
  after_results
  rfl

set_option maxHeartbeats 4000000 in
/-- The packed parameters. -/
theorem V_pack (c : Dev nD) : V m c main_call0_v10 = pack (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10)) := by
  have e : V m c main_call0_v10 = stack
      (StableHlo.after ((hostOps0 (F := Ideal)).take 17) (fun b => m (c, b)) (Proc.devRef .tc main_arg7))
      (StableHlo.after ((hostOps0 (F := Ideal)).take 17) (fun b => m (c, b)) (Proc.devRef .tc main_call0_v2))
      (StableHlo.after ((hostOps0 (F := Ideal)).take 17) (fun b => m (c, b)) (Proc.devRef .tc main_call0_v3))
      (StableHlo.after ((hostOps0 (F := Ideal)).take 17) (fun b => m (c, b)) (Proc.devRef .tc main_call0_v4))
      (StableHlo.after ((hostOps0 (F := Ideal)).take 17) (fun b => m (c, b)) (Proc.devRef .tc main_call0_v6))
      (StableHlo.after ((hostOps0 (F := Ideal)).take 17) (fun b => m (c, b)) (Proc.devRef .tc main_call0_v8))
      (StableHlo.after ((hostOps0 (F := Ideal)).take 17) (fun b => m (c, b)) (Proc.devRef .tc main_call0_v9)) := by
    have hs : List.flatten [hostOps0 (F := Ideal)] = (hostOps0 (F := Ideal)).take 17 ++ [(hostOps0 (F := Ideal))[17]] := rfl
    show StableHlo.after (List.flatten [hostOps0 (F := Ideal)]) (fun b => m (c, b)) (Proc.devRef .tc main_call0_v10) = _
    rw [hs, StableHlo.after_append, StableHlo.after_cons, StableHlo.after_nil]
    generalize StableHlo.after ((hostOps0 (F := Ideal)).take 17) (fun b => m (c, b)) = X
    simp only [hostOps0, List.getElem_cons_succ, List.getElem_cons_zero, StableHlo.TRef.nary]
    exact (StableHlo.nary_result _ _ _ _ _ _).trans rfl
  rw [e, piece0, piece1, piece2, piece3, piece4, piece5, piece6]
  rfl

section Read
variable (a : IVec S10000 32) (a7 : FVec Ideal S128x256 .f32) (a9 : FVec Ideal S2x128 .f32) (a4 a6 : FVec Ideal S256 .f32) (a8 : FVec Ideal S128 .f32) (a10 : FVec Ideal S2 .f32)

theorem column_apply (n : Fin 10000) : shapeCast S10000x1 a shapeCasts_S10000_S10000x1 (ix2 n 0) = a (ix1 n) := by pointwise

theorem row_apply (n : Fin 10000) : shapeCast S1x10000 a shapeCasts_S10000_S1x10000 (ix2 0 n) = a (ix1 n) := by pointwise

/-- The second layer's matrix. -/
theorem pack_second (x : Fin 128) (y : Fin 256) : pack a7 a9 a4 a6 a8 a10 (ix2 ⟨x.val, by have := x.isLt; omega⟩ y) = a7 (ix2 x y) := by
  pointwise [pack, stack]

/-- The third layer's matrix. -/
theorem pack_third (l : Fin 2) (x : Fin 128) :
    pack a7 a9 a4 a6 a8 a10 (ix2 ⟨128 + l.val, by have := l.isLt; omega⟩ ⟨x.val, by have := x.isLt; omega⟩) = a9 (ix2 l x) := by
  pointwise [pack, stack]
  exact dif_pos (by have := l.isLt; omega)

/-- The row features' bias. -/
theorem pack_bias (l : Fin 256) : pack a7 a9 a4 a6 a8 a10 (ix2 136 l) = a4 (ix1 l) := by
  pointwise [pack, stack]

/-- The first layer's bias. -/
theorem pack_bias1 (l : Fin 256) : pack a7 a9 a4 a6 a8 a10 (ix2 137 l) = a6 (ix1 l) := by
  pointwise [pack, stack]

/-- The second layer's bias. -/
theorem pack_bias2 (x : Fin 128) : pack a7 a9 a4 a6 a8 a10 (ix2 138 ⟨x.val, by have := x.isLt; omega⟩) = a8 (ix1 x) := by
  pointwise [pack, stack]

/-- The third layer's bias. -/
theorem pack_bias3 (l : Fin 2) : pack a7 a9 a4 a6 a8 a10 (ix2 139 ⟨l.val, by have := l.isLt; omega⟩) = a10 (ix1 l) := by
  pointwise [pack, stack]

end Read

end Cert.Proof.Pack

end
-- ==== Proof.Scan.lean ====
module

public import Idealize.ShloMosaic.Lib.Pointwise
public import Idealize.ShloMosaic.PureOps.Ideal

@[expose] public section

set_option maxRecDepth 16384

/-! # One step of a segmented running maximum, on rows under ids -/

noncomputable section

namespace Cert.Proof.Scan

open Idealize.ShloMosaic

/-- Equal ids stand together: between two rows of one id every row has that id. -/
def Together {N : ℕ} (id : Fin N → BitVec 32) : Prop :=
  ∀ j m n : Fin N, j ≤ m → m ≤ n → id j = id n → id m = id n

/-- `v` is, row by row, above `x` at the last `W` rows of the row's own id, and below whatever is above `x` at all the
    rows of that id up to the row. -/
def Covers {N : ℕ} (id : Fin N → BitVec 32) (x v : Fin N → EReal) (W : ℕ) : Prop :=
  ∀ n : Fin N, (∀ j : Fin N, j ≤ n → n.val < j.val + W → id j = id n → x j ≤ v n)
    ∧ ∀ c : EReal, (∀ j : Fin N, j ≤ n → id j = id n → x j ≤ c) → v n ≤ c

/-- The rows themselves cover one row. -/
theorem Covers.base {N : ℕ} (id : Fin N → BitVec 32) (x : Fin N → EReal) : Covers id x x 1 := fun n =>
  ⟨fun j hj hw _ => by rw [show j = n from Fin.ext (by have : j.val ≤ n.val := hj; omega)], fun _ h => h n le_rfl rfl⟩

/-- The step back by `d` rows: the maximum with the row `d` before where that row has the same id. -/
def back {N : ℕ} (id : Fin N → BitVec 32) (v : Fin N → EReal) (d : ℕ) (n : Fin N) : EReal :=
  if n.val < d then v n
  else max (v n) (if id ⟨n.val - d, Nat.lt_of_le_of_lt (Nat.sub_le _ _) n.isLt⟩ = id n
    then v ⟨n.val - d, Nat.lt_of_le_of_lt (Nat.sub_le _ _) n.isLt⟩ else ⊥)

/-- A step back by `d` doubles a cover of `d` rows. -/
theorem Covers.step {N : ℕ} {id : Fin N → BitVec 32} {x v : Fin N → EReal} {d : ℕ} (hid : Together id)
    (hv : Covers id x v d) : Covers id x (back id v d) (d + d) := by
  intro n
  have hle : v n ≤ back id v d n := by
    unfold back; split
    · exact le_rfl
    · exact le_max_left _ _
  refine ⟨fun j hj hw hjn => ?_, fun c hc => ?_⟩
  · have hj' : j.val ≤ n.val := hj
    by_cases hnear : n.val < j.val + d
    · exact ((hv n).1 j hj hnear hjn).trans hle
    · have hb : id ⟨n.val - d, Nat.lt_of_le_of_lt (Nat.sub_le _ _) n.isLt⟩ = id n :=
        hid j _ n (Fin.le_def.2 (by show j.val ≤ n.val - d; omega)) (Fin.le_def.2 (by show n.val - d ≤ n.val; omega)) hjn
      unfold back
      rw [if_neg (by omega), if_pos hb]
      refine le_trans ((hv _).1 j (Fin.le_def.2 (by show j.val ≤ n.val - d; omega)) (by show n.val - d < j.val + d; omega) (hjn.trans hb.symm)) (le_max_right _ _)
  · unfold back
    split
    · exact (hv n).2 c hc
    · refine max_le ((hv n).2 c hc) ?_
      split
      · rename_i hb
        exact (hv _).2 c fun j hj hjb => hc j (Fin.le_def.2 (by have : j.val ≤ n.val - d := hj; omega)) (hjb.trans hb)
      · exact bot_le

/-- The step on vectors: the first `d` rows kept, every later row the maximum with the row `d` before under a mask. -/
def stepWith {N d M : ℕ} (v : FVec Ideal ⟨2, ![N, 256]⟩ .bf16) (up : FVec Ideal ⟨2, ![M, 256]⟩ .bf16)
    (hv₀ : Shape.Slices ⟨2, ![N, 256]⟩ ![0, 0] ⟨2, ![d, 256]⟩)
    (hcc : Shape.Concatenates [⟨2, ![d, 256]⟩, ⟨2, ![M, 256]⟩] ⟨2, ![N, 256]⟩ 0) : FVec Ideal ⟨2, ![N, 256]⟩ .bf16 :=
  concatenate ⟨2, ![N, 256]⟩ 0 [⟨⟨2, ![d, 256]⟩, extractStridedSlice ⟨2, ![d, 256]⟩ ![0, 0] v hv₀⟩, ⟨⟨2, ![M, 256]⟩, up⟩] hcc

/-- The rows from the `d`-th on, each with the row `d` before where the ids agree. -/
def upper {N d M : ℕ} (ids : IVec ⟨2, ![N, 1]⟩ 32) (v : FVec Ideal ⟨2, ![N, 256]⟩ .bf16) (z : EReal)
    (hi₀ : Shape.Slices ⟨2, ![N, 1]⟩ ![0, 0] ⟨2, ![M, 1]⟩) (hi : Shape.Slices ⟨2, ![N, 1]⟩ ![d, 0] ⟨2, ![M, 1]⟩)
    (hw₀ : Shape.Slices ⟨2, ![N, 256]⟩ ![0, 0] ⟨2, ![M, 256]⟩) (hw : Shape.Slices ⟨2, ![N, 256]⟩ ![d, 0] ⟨2, ![M, 256]⟩)
    (hs : Shape.ShapeCasts ⟨2, ![M, 1]⟩ ⟨2, ![M, 1]⟩) (hb : Shape.Broadcasts ⟨2, ![M, 1]⟩ ⟨2, ![M, 256]⟩) :
    FVec Ideal ⟨2, ![M, 256]⟩ .bf16 :=
  maximumf (extractStridedSlice ⟨2, ![M, 256]⟩ ![d, 0] v hw)
    (select (broadcastTo ⟨2, ![M, 256]⟩ (shapeCast ⟨2, ![M, 1]⟩ (cmpi .eq (extractStridedSlice ⟨2, ![M, 1]⟩ ![0, 0] ids hi₀)
        (extractStridedSlice ⟨2, ![M, 1]⟩ ![d, 0] ids hi)) hs) hb)
      (extractStridedSlice ⟨2, ![M, 256]⟩ ![0, 0] v hw₀) (broadcast ⟨2, ![M, 256]⟩ z))

/-- The later rows read at an index. -/
theorem upper_apply {N d M : ℕ} (hN : d + M = N) (ids : IVec ⟨2, ![N, 1]⟩ 32) (v : FVec Ideal ⟨2, ![N, 256]⟩ .bf16) (z : EReal)
    (hi₀ : Shape.Slices ⟨2, ![N, 1]⟩ ![0, 0] ⟨2, ![M, 1]⟩) (hi : Shape.Slices ⟨2, ![N, 1]⟩ ![d, 0] ⟨2, ![M, 1]⟩)
    (hw₀ : Shape.Slices ⟨2, ![N, 256]⟩ ![0, 0] ⟨2, ![M, 256]⟩) (hw : Shape.Slices ⟨2, ![N, 256]⟩ ![d, 0] ⟨2, ![M, 256]⟩)
    (hs : Shape.ShapeCasts ⟨2, ![M, 1]⟩ ⟨2, ![M, 1]⟩) (hb : Shape.Broadcasts ⟨2, ![M, 1]⟩ ⟨2, ![M, 256]⟩)
    (r : Fin M) (l : Fin 256) (a b : Fin N) (ha : a.val = r.val) (hb' : b.val = d + r.val) :
    upper ids v z hi₀ hi hw₀ hw hs hb (ix2 r l)
      = max (v (ix2 b l)) (if ids (ix2 a 0) = ids (ix2 b 0) then v (ix2 a l) else z) := by
  have e1 : ∀ (h : Shape.Slices ⟨2, ![N, 256]⟩ ![d, 0] ⟨2, ![M, 256]⟩),
      extractStridedSlice ⟨2, ![M, 256]⟩ ![d, 0] v h (ix2 r l) = v (ix2 b l) := fun h =>
    extractStridedSlice_apply _ v h _ _ fun q => by
      match q with
      | ⟨0, _⟩ => exact hb'
      | ⟨1, _⟩ => exact (Nat.zero_add _).symm
  have e2 : ∀ (h : Shape.Slices ⟨2, ![N, 256]⟩ ![0, 0] ⟨2, ![M, 256]⟩),
      extractStridedSlice ⟨2, ![M, 256]⟩ ![0, 0] v h (ix2 r l) = v (ix2 a l) := fun h =>
    extractStridedSlice_apply _ v h _ _ fun q => by
      match q with
      | ⟨0, _⟩ => exact ha.trans (Nat.zero_add _).symm
      | ⟨1, _⟩ => exact (Nat.zero_add _).symm
  have e3 : ∀ (h : Shape.Slices ⟨2, ![N, 1]⟩ ![d, 0] ⟨2, ![M, 1]⟩),
      extractStridedSlice ⟨2, ![M, 1]⟩ ![d, 0] ids h (ix2 r 0) = ids (ix2 b 0) := fun h =>
    extractStridedSlice_apply _ ids h _ _ fun q => by
      match q with
      | ⟨0, _⟩ => exact hb'
      | ⟨1, _⟩ => exact (Nat.zero_add _).symm
  have e4 : ∀ (h : Shape.Slices ⟨2, ![N, 1]⟩ ![0, 0] ⟨2, ![M, 1]⟩),
      extractStridedSlice ⟨2, ![M, 1]⟩ ![0, 0] ids h (ix2 r 0) = ids (ix2 a 0) := fun h =>
    extractStridedSlice_apply _ ids h _ _ fun q => by
      match q with
      | ⟨0, _⟩ => exact ha.trans (Nat.zero_add _).symm
      | ⟨1, _⟩ => exact (Nat.zero_add _).symm
  have e5 : ∀ (y : IVec ⟨2, ![M, 1]⟩ 1), broadcastTo ⟨2, ![M, 256]⟩ (shapeCast ⟨2, ![M, 1]⟩ y hs) hb (ix2 r l) = y (ix2 r 0) := fun y => by
    rw [shapeCast_self]
    refine broadcastTo_apply y hb _ _ fun q => ?_
    match q with
    | ⟨0, _⟩ =>
      show r.val = if M = 1 then 0 else r.val
      split
      · have := r.isLt; omega
      · rfl
    | ⟨1, _⟩ => rfl
  unfold upper
  rw [ValueIdx.maximumf_apply, ValueIdx.select_apply, e1, e2, e5]
  show max _ (Scalar.select (IntOp.cmpi .eq (extractStridedSlice ⟨2, ![M, 1]⟩ ![0, 0] ids hi₀ (ix2 r 0)) (extractStridedSlice ⟨2, ![M, 1]⟩ ![d, 0] ids hi (ix2 r 0))) _ z) = _
  rw [e3, e4]
  by_cases h : ids (ix2 a 0) = ids (ix2 b 0)
  · rw [if_pos h, h]; simp [IntOp.cmpi, Scalar.select]
  · rw [if_neg h]; simp only [IntOp.cmpi, Scalar.select, beq_false_of_ne h]; rfl

/-- The step on vectors, read down a column: the step back by `d`. -/
theorem step_apply {N d M : ℕ} (hN : d + M = N) (ids : IVec ⟨2, ![N, 1]⟩ 32) (v : FVec Ideal ⟨2, ![N, 256]⟩ .bf16) (z : EReal) (hz : z = ⊥)
    (hi₀ : Shape.Slices ⟨2, ![N, 1]⟩ ![0, 0] ⟨2, ![M, 1]⟩) (hi : Shape.Slices ⟨2, ![N, 1]⟩ ![d, 0] ⟨2, ![M, 1]⟩)
    (hw₀ : Shape.Slices ⟨2, ![N, 256]⟩ ![0, 0] ⟨2, ![M, 256]⟩) (hw : Shape.Slices ⟨2, ![N, 256]⟩ ![d, 0] ⟨2, ![M, 256]⟩)
    (hs : Shape.ShapeCasts ⟨2, ![M, 1]⟩ ⟨2, ![M, 1]⟩) (hb : Shape.Broadcasts ⟨2, ![M, 1]⟩ ⟨2, ![M, 256]⟩)
    (hv₀ : Shape.Slices ⟨2, ![N, 256]⟩ ![0, 0] ⟨2, ![d, 256]⟩)
    (hcc : Shape.Concatenates [⟨2, ![d, 256]⟩, ⟨2, ![M, 256]⟩] ⟨2, ![N, 256]⟩ 0) (n : Fin N) (l : Fin 256) :
    stepWith v (upper ids v z hi₀ hi hw₀ hw hs hb) hv₀ hcc (ix2 n l)
      = back (fun r => ids (ix2 r 0)) (fun r => v (ix2 r l)) d n := by
  subst hz
  unfold stepWith back
  have hn := n.isLt
  by_cases h : n.val < d
  · rw [if_pos h]
    refine (concatenate_pair_apply_left (t := ⟨2, ![N, 256]⟩) (s₁ := ⟨2, ![d, 256]⟩) (s₂ := ⟨2, ![M, 256]⟩) 0 _ _ hcc _ rfl
      (ix2 ⟨n.val, h⟩ l) fun q => ?_).trans (extractStridedSlice_apply _ v hv₀ _ _ fun q => ?_)
    · match q with
      | ⟨0, _⟩ => rfl
      | ⟨1, _⟩ => rfl
    · match q with
      | ⟨0, _⟩ => exact (Nat.zero_add _).symm
      | ⟨1, _⟩ => exact (Nat.zero_add _).symm
  · rw [if_neg h]
    refine (concatenate_pair_apply_right (t := ⟨2, ![N, 256]⟩) (s₁ := ⟨2, ![d, 256]⟩) (s₂ := ⟨2, ![M, 256]⟩) 0 _ _ hcc _ rfl rfl
      (ix2 ⟨n.val - d, by omega⟩ l) (fun q hq => ?_) (by show n.val - d + d = n.val; omega)).trans
      (upper_apply hN ids v ⊥ hi₀ hi hw₀ hw hs hb _ l ⟨n.val - d, by omega⟩ n rfl (by show n.val = d + (n.val - d); omega))
    match q with
    | ⟨0, _⟩ => exact absurd rfl hq
    | ⟨1, _⟩ => rfl

/-- The shape conditions of a step by `d` rows over `N`, `M` of them changed. -/
structure Fits (N d M : ℕ) : Prop where
  sum : d + M = N
  ids₀ : Shape.Slices ⟨2, ![N, 1]⟩ ![0, 0] ⟨2, ![M, 1]⟩
  idsD : Shape.Slices ⟨2, ![N, 1]⟩ ![d, 0] ⟨2, ![M, 1]⟩
  low : Shape.Slices ⟨2, ![N, 256]⟩ ![0, 0] ⟨2, ![M, 256]⟩
  high : Shape.Slices ⟨2, ![N, 256]⟩ ![d, 0] ⟨2, ![M, 256]⟩
  same : Shape.ShapeCasts ⟨2, ![M, 1]⟩ ⟨2, ![M, 1]⟩
  wide : Shape.Broadcasts ⟨2, ![M, 1]⟩ ⟨2, ![M, 256]⟩
  kept : Shape.Slices ⟨2, ![N, 256]⟩ ![0, 0] ⟨2, ![d, 256]⟩
  join : Shape.Concatenates [⟨2, ![d, 256]⟩, ⟨2, ![M, 256]⟩] ⟨2, ![N, 256]⟩ 0

/-- The value a masked row takes: minus infinity, narrowed. -/
def low : EReal := Scalar.truncf (F := Ideal) .bf16 (by decide) (Scalar.ofBits (F := Ideal) .f32 0xFF800000#32)

/-- The 32-bit pattern of minus infinity. -/
theorem ofBits_neg_inf : Ideal.ofBits .f32 0xFF800000#32 = (⊥ : EReal) := by simp [Ideal.ofBits, Ideal.ieee]

/-- The 16-bit pattern of minus infinity. -/
theorem ofBits_neg_inf_short : Ideal.ofBits .bf16 0xFF80#16 = (⊥ : EReal) := by simp [Ideal.ofBits, Ideal.ieee]

theorem low_eq : low = ⊥ := ofBits_neg_inf

/-- One whole step by `d` rows. -/
def stepV {N d M : ℕ} (f : Fits N d M) (ids : IVec ⟨2, ![N, 1]⟩ 32) (v : FVec Ideal ⟨2, ![N, 256]⟩ .bf16) : FVec Ideal ⟨2, ![N, 256]⟩ .bf16 :=
  stepWith v (upper ids v low f.ids₀ f.idsD f.low f.high f.same f.wide) f.kept f.join

/-- A whole step doubles what a column covers. -/
theorem covers_stepV {N d M : ℕ} (f : Fits N d M) (ids : IVec ⟨2, ![N, 1]⟩ 32) (x : Fin N → EReal)
    (v : FVec Ideal ⟨2, ![N, 256]⟩ .bf16) (l : Fin 256) (hid : Together fun r : Fin N => ids (ix2 r 0))
    (hv : Covers (fun r : Fin N => ids (ix2 r 0)) x (fun r => v (ix2 r l)) d) :
    Covers (fun r : Fin N => ids (ix2 r 0)) x (fun r => stepV f ids v (ix2 r l)) (d + d) := by
  have e : (fun r : Fin N => stepV f ids v (ix2 r l))
      = back (fun r => ids (ix2 r 0)) (fun r => v (ix2 r l)) d :=
    funext fun n => step_apply f.sum ids v low low_eq _ _ _ _ _ _ _ _ n l
  rw [e]
  exact hv.step hid

end Cert.Proof.Scan

end
-- ==== Proof.Rows.lean ====
module

public import proofs.«01_k».proof.Proof.Gen.KernelIdeal.Skeleton
public import proofs.«01_k».proof.Proof.Scan

@[expose] public section

set_option maxRecDepth 16384

/-! # The two running maxima of the kernel, as steps back by powers of two -/

noncomputable section

namespace Cert.Proof.Rows

open Idealize.ShloMosaic Cert.KernelIdeal Cert.KernelIdeal.Gen Cert.Proof.Scan

theorem r1 : Fits 10000 1 9999 := ⟨by decide, by decide, by decide, by decide, by decide, by decide, by decide, by decide, by decide⟩
theorem r2 : Fits 10000 2 9998 := ⟨by decide, by decide, by decide, by decide, by decide, by decide, by decide, by decide, by decide⟩
theorem r4 : Fits 10000 4 9996 := ⟨by decide, by decide, by decide, by decide, by decide, by decide, by decide, by decide, by decide⟩
theorem t1 : Fits 1280 1 1279 := ⟨by decide, by decide, by decide, by decide, by decide, by decide, by decide, by decide, by decide⟩
theorem t2 : Fits 1280 2 1278 := ⟨by decide, by decide, by decide, by decide, by decide, by decide, by decide, by decide, by decide⟩
theorem t4 : Fits 1280 4 1276 := ⟨by decide, by decide, by decide, by decide, by decide, by decide, by decide, by decide, by decide⟩
theorem t8 : Fits 1280 8 1272 := ⟨by decide, by decide, by decide, by decide, by decide, by decide, by decide, by decide, by decide⟩
theorem t16 : Fits 1280 16 1264 := ⟨by decide, by decide, by decide, by decide, by decide, by decide, by decide, by decide, by decide⟩
theorem t32 : Fits 1280 32 1248 := ⟨by decide, by decide, by decide, by decide, by decide, by decide, by decide, by decide, by decide⟩
theorem t64 : Fits 1280 64 1216 := ⟨by decide, by decide, by decide, by decide, by decide, by decide, by decide, by decide, by decide⟩
theorem t128 : Fits 1280 128 1152 := ⟨by decide, by decide, by decide, by decide, by decide, by decide, by decide, by decide, by decide⟩
theorem t256 : Fits 1280 256 1024 := ⟨by decide, by decide, by decide, by decide, by decide, by decide, by decide, by decide, by decide⟩
theorem t512 : Fits 1280 512 768 := ⟨by decide, by decide, by decide, by decide, by decide, by decide, by decide, by decide, by decide⟩
theorem t1024 : Fits 1280 1024 256 := ⟨by decide, by decide, by decide, by decide, by decide, by decide, by decide, by decide, by decide⟩

/-- The row maxima: three steps, by one, two and four rows. -/
theorem rows_eq (v0 : FVec Ideal S144x256 .f32) (v2 : FVec Ideal S10000x256 .f32) (v3 : FVec Ideal S256x256 .f32) (v8 : IVec S10000x1 32) :
    k0_pay13 (F := Ideal) (k0_pay4 (F := Ideal) v8) (k0_pay11 v0 v2 v3 v8) (k0_pay12 v0 v2 v3)
      = stepV r4 (k0_pay4 (F := Ideal) v8) (stepV r2 (k0_pay4 (F := Ideal) v8) (stepV r1 (k0_pay4 (F := Ideal) v8) (k0_pay10 v0 v2 v3))) := rfl

/-- Eight rows back: every row is above the last eight rows of its id, and is the maximum of rows of its id. -/
theorem rows_cover (v0 : FVec Ideal S144x256 .f32) (v2 : FVec Ideal S10000x256 .f32) (v3 : FVec Ideal S256x256 .f32) (v8 : IVec S10000x1 32)
    (hid : Together fun r : Fin 10000 => k0_pay4 (F := Ideal) v8 (ix2 r 0)) (l : Fin 256) :
    Covers (fun r : Fin 10000 => k0_pay4 (F := Ideal) v8 (ix2 r 0)) (fun r => k0_pay3 (F := Ideal) v0 v2 v3 (ix2 r l))
      (fun r => k0_pay13 (F := Ideal) (k0_pay4 (F := Ideal) v8) (k0_pay11 v0 v2 v3 v8) (k0_pay12 v0 v2 v3) (ix2 r l)) 8 := by
  rw [rows_eq]
  exact covers_stepV r4 _ _ _ l hid (covers_stepV r2 _ _ _ l hid (covers_stepV r1 _ _ _ l hid (Covers.base _ _)))

/-- The scan of the tails: eleven steps, by one row up to 1024 rows. -/
def scan (t : FVec Ideal S1280x256 .bf16) (ids : IVec S1280x1 32) : FVec Ideal S1280x256 .bf16 :=
  stepV t1024 ids (stepV t512 ids (stepV t256 ids (stepV t128 ids (stepV t64 ids (stepV t32 ids (stepV t16 ids
    (stepV t8 ids (stepV t4 ids (stepV t2 ids (stepV t1 ids t))))))))))

/-- The first four steps. -/
theorem scan4_eq (v9 : IVec S10000x1 32) (v42 : FVec Ideal S9999x256 .bf16) (v43 : FVec Ideal S1x256 .bf16) :
    k0_pay21 (F := Ideal) (k0_pay15 v9 v42 v43) (k0_pay16 v9) (k0_pay17 v9) (k0_pay18 v9 v42 v43) (k0_pay19 v9 v42 v43) (k0_pay20 (F := Ideal))
      = stepV t8 (k0_pay16 v9) (stepV t4 (k0_pay16 v9) (stepV t2 (k0_pay16 v9) (stepV t1 (k0_pay16 v9) (k0_pay15 v9 v42 v43)))) := rfl

/-- The kernel's tails, scanned. -/
theorem scan_eq (v9 : IVec S10000x1 32) (v42 : FVec Ideal S9999x256 .bf16) (v43 : FVec Ideal S1x256 .bf16) :
    k0_pay26 (F := Ideal) (k0_pay16 v9)
        (k0_pay24 (k0_pay16 v9)
          (k0_pay21 (k0_pay15 v9 v42 v43) (k0_pay16 v9) (k0_pay17 v9) (k0_pay18 v9 v42 v43) (k0_pay19 v9 v42 v43) (k0_pay20 (F := Ideal)))
          (k0_pay22 (k0_pay15 v9 v42 v43) (k0_pay16 v9) (k0_pay17 v9) (k0_pay18 v9 v42 v43) (k0_pay19 v9 v42 v43) (k0_pay20 (F := Ideal)))
          (k0_pay23 (k0_pay15 v9 v42 v43) (k0_pay16 v9) (k0_pay17 v9) (k0_pay18 v9 v42 v43) (k0_pay19 v9 v42 v43) (k0_pay20 (F := Ideal))))
        (k0_pay25 (k0_pay16 v9))
      = scan (k0_pay15 v9 v42 v43) (k0_pay16 v9) := by
  unfold k0_pay22 k0_pay23
  rw [scan4_eq]
  rfl

/-- The scan covers every earlier tail of the same id. -/
theorem scan_cover (t : FVec Ideal S1280x256 .bf16) (ids : IVec S1280x1 32) (hid : Together fun r : Fin 1280 => ids (ix2 r 0)) (l : Fin 256) :
    Covers (fun r : Fin 1280 => ids (ix2 r 0)) (fun r => t (ix2 r l)) (fun r => scan t ids (ix2 r l)) 2048 :=
  covers_stepV t1024 _ _ _ l hid (covers_stepV t512 _ _ _ l hid (covers_stepV t256 _ _ _ l hid (covers_stepV t128 _ _ _ l hid
    (covers_stepV t64 _ _ _ l hid (covers_stepV t32 _ _ _ l hid (covers_stepV t16 _ _ _ l hid (covers_stepV t8 _ _ _ l hid
      (covers_stepV t4 _ _ _ l hid (covers_stepV t2 _ _ _ l hid (covers_stepV t1 _ _ _ l hid (Covers.base _ _)))))))))))

end Cert.Proof.Rows

end
-- ==== Proof.Segments.lean ====
module

public import proofs.«01_k».proof.Proof.Scan

@[expose] public section

/-! # Ascending keys: how many rows a key has, where its last row stands, and the maximum over its rows -/

noncomputable section

namespace Cert.Proof.Segments

open Idealize.ShloMosaic Cert.Proof.Scan

variable {N : ℕ}

/-- How many rows have key `g`. -/
def size (k : Fin N → ℕ) (g : ℕ) : ℕ := (Finset.univ.filter fun n : Fin N => k n = g).card

/-- How many rows have a key up to `g`. -/
def rank (k : Fin N → ℕ) (g : ℕ) : ℕ := (Finset.univ.filter fun n : Fin N => k n ≤ g).card

theorem rank_le (k : Fin N → ℕ) (g : ℕ) : rank k g ≤ N := (Finset.card_le_univ _).trans (by simp)

theorem size_le (k : Fin N → ℕ) (g : ℕ) : size k g ≤ N := (Finset.card_le_univ _).trans (by simp)

/-- A key has a row exactly when it counts one. -/
theorem size_pos_iff (k : Fin N → ℕ) (g : ℕ) : 0 < size k g ↔ ∃ n, k n = g := by
  unfold size
  rw [Finset.card_pos]
  constructor
  · rintro ⟨n, hn⟩; exact ⟨n, (Finset.mem_filter.1 hn).2⟩
  · rintro ⟨n, hn⟩; exact ⟨n, Finset.mem_filter.2 ⟨Finset.mem_univ _, hn⟩⟩

/-- Where keys ascend, the rows with a key up to `g` are the first `rank k g`. -/
theorem lt_rank_iff {k : Fin N → ℕ} (hk : Monotone k) (g : ℕ) (n : Fin N) : n.val < rank k g ↔ k n ≤ g := by
  constructor
  · intro h
    by_contra hn
    refine absurd h (Nat.not_lt.2 ?_)
    refine (Finset.card_le_card (t := Finset.Iio n) fun j hj => ?_).trans (by rw [Fin.card_Iio])
    rw [Finset.mem_Iio]
    by_contra hjn
    exact hn ((hk (not_lt.1 hjn)).trans (Finset.mem_filter.1 hj).2)
  · intro h
    refine Nat.lt_of_lt_of_le (Nat.lt_succ_self _) (le_trans (by rw [Fin.card_Iic]) (Finset.card_le_card (s := Finset.Iic n) fun j hj => ?_))
    exact Finset.mem_filter.2 ⟨Finset.mem_univ _, (hk (Finset.mem_Iic.1 hj)).trans h⟩

/-- Where keys ascend, a key that has rows has its last one just before `rank k g`. -/
theorem exists_last {k : Fin N → ℕ} (hk : Monotone k) (g : ℕ) (hg : 0 < size k g) :
    ∃ e : Fin N, e.val + 1 = rank k g ∧ k e = g ∧ ∀ n, k n = g → n ≤ e := by
  obtain ⟨n, hn⟩ := (size_pos_iff k g).1 hg
  have h0 : n.val < rank k g := (lt_rank_iff hk g n).2 hn.le
  have hr := rank_le k g
  refine ⟨⟨rank k g - 1, by omega⟩, by show rank k g - 1 + 1 = _; omega, le_antisymm ?_ ?_, fun j hj => ?_⟩
  · exact (lt_rank_iff hk g _).1 (by show rank k g - 1 < _; omega)
  · exact hn.symm.le.trans (hk (Fin.le_def.2 (by show n.val ≤ rank k g - 1; omega)))
  · have := (lt_rank_iff hk g j).2 hj.le
    exact Fin.le_def.2 (by show j.val ≤ rank k g - 1; omega)

/-- The counts of the keys up to `g`, added up. -/
theorem sum_size {G : ℕ} (Q : Fin N → Prop) [DecidablePred Q] (k : Fin N → ℕ) (g : Fin G) :
    ∑ x : Fin G, (if x.val ≤ g.val then 1 else 0) * (Finset.univ.filter fun n : Fin N => k n = x.val ∧ Q n).card
      = (Finset.univ.filter fun n : Fin N => k n ≤ g.val ∧ Q n).card := by
  simp only [Finset.card_filter, Finset.mul_sum]
  rw [Finset.sum_comm]
  refine Finset.sum_congr rfl fun n _ => ?_
  by_cases hQ : Q n
  · by_cases hle : k n ≤ g.val
    · rw [if_pos ⟨hle, hQ⟩, Finset.sum_eq_single (⟨k n, Nat.lt_of_le_of_lt hle g.isLt⟩ : Fin G)]
      · rw [if_pos hle, if_pos ⟨rfl, hQ⟩, Nat.mul_one]
      · intro x _ hx
        rw [if_neg (fun h : k n = x.val ∧ Q n => hx (Fin.ext h.1.symm)), Nat.mul_zero]
      · intro h; exact absurd (Finset.mem_univ _) h
    · rw [if_neg (fun h => hle h.1)]
      refine Finset.sum_eq_zero fun x _ => ?_
      by_cases hx : k n = x.val
      · rw [if_neg (by omega), Nat.zero_mul]
      · rw [if_neg (fun h : k n = x.val ∧ Q n => hx h.1), Nat.mul_zero]
  · rw [if_neg (fun h => hQ h.2)]
    exact Finset.sum_eq_zero fun x _ => by rw [if_neg (fun h : k n = x.val ∧ Q n => hQ h.2), Nat.mul_zero]

/-- The last row of block `b` of eight. -/
def tail (b : Fin 1250) : Fin 10000 := ⟨b.val * 8 + 7, by have := b.isLt; omega⟩

theorem tail_mono : Monotone tail := fun a b h => Fin.le_def.2 (by
  have : a.val ≤ b.val := h
  show a.val * 8 + 7 ≤ b.val * 8 + 7
  omega)

/-- Rows that end a block of eight are counted by their blocks. -/
theorem card_tails (R : Fin 10000 → Prop) [DecidablePred R] :
    (Finset.univ.filter fun n : Fin 10000 => R n ∧ n.val % 8 = 7).card = (Finset.univ.filter fun b : Fin 1250 => R (tail b)).card := by
  symm
  refine Finset.card_bij (fun b _ => tail b) (fun b hb => ?_) (fun a _ b _ h => ?_) fun n hn => ?_
  · refine Finset.mem_filter.2 ⟨Finset.mem_univ _, (Finset.mem_filter.1 hb).2, ?_⟩
    show (b.val * 8 + 7) % 8 = 7
    omega
  · have := congrArg Fin.val h
    change a.val * 8 + 7 = b.val * 8 + 7 at this
    exact Fin.ext (by omega)
  · have hn' := (Finset.mem_filter.1 hn).2
    have e : tail ⟨n.val / 8, by have := n.isLt; omega⟩ = n := Fin.ext (by show n.val / 8 * 8 + 7 = n.val; omega)
    exact ⟨⟨n.val / 8, by have := n.isLt; omega⟩, Finset.mem_filter.2 ⟨Finset.mem_univ _, by rw [e]; exact hn'.1⟩, e⟩

/-- A running maximum eight rows deep, read at the last row of a key, and a running maximum over the ends of the blocks,
    read at the last block that ends on that key, are together the maximum over all rows of the key. -/
theorem segment_max {id : Fin 10000 → BitVec 32} {k : Fin 10000 → ℕ} (hid : ∀ n, k n = (id n).toNat) (hk : Monotone k)
    {h M : Fin 10000 → EReal} (hM : Covers id h M 8) {tid : Fin 1280 → BitVec 32} {T S : Fin 1280 → EReal}
    (htid : ∀ b : Fin 1250, tid (b.castLE (by decide)) = id (tail b)) (hT : ∀ b : Fin 1250, T (b.castLE (by decide)) = M (tail b))
    (htid' : ∀ b : Fin 1280, 1250 ≤ b.val → ∀ n, tid b ≠ id n)
    (hS : Covers tid T S 2048) {g : ℕ} {e : Fin 10000} (he : k e = g) (hlast : ∀ n, k n = g → n ≤ e) {t : EReal}
    (ht : ((∀ b : Fin 1250, k (tail b) ≠ g) ∧ t = ⊥)
      ∨ ∃ e' : Fin 1250, k (tail e') = g ∧ (∀ b : Fin 1250, k (tail b) = g → b ≤ e') ∧ t = S (e'.castLE (by decide))) :
    max (M e) t = Finset.univ.fold max ⊥ fun n => if k n = g then h n else ⊥ := by
  have same : ∀ {a b : Fin 10000}, id a = id b ↔ k a = k b := fun {a b} =>
    ⟨fun h => by rw [hid, hid, h], fun h => BitVec.eq_of_toNat_eq (by rw [← hid, ← hid, h])⟩
  have above : ∀ n, k n = g → h n ≤ Finset.univ.fold max ⊥ fun n => if k n = g then h n else ⊥ := fun n hn =>
    Finset.le_fold_max _ |>.2 (.inr ⟨n, Finset.mem_univ _, by rw [if_pos hn]⟩)
  have aboveM : ∀ n, k n = g → M n ≤ Finset.univ.fold max ⊥ fun n => if k n = g then h n else ⊥ := fun n hn =>
    (hM n).2 _ fun j _ hj => above j ((same.1 hj).trans hn)
  refine le_antisymm (max_le (aboveM e he) ?_) (Finset.fold_max_le _ |>.2 ⟨bot_le, fun n _ => ?_⟩)
  · rcases ht with ⟨_, rfl⟩ | ⟨e', he', _, rfl⟩
    · exact bot_le
    · refine (hS _).2 _ fun j _ hj => ?_
      rw [htid] at hj
      by_cases hb : j.val < 1250
      · have ej : (⟨j.val, hb⟩ : Fin 1250).castLE (by decide) = j := rfl
        rw [← ej, htid] at hj
        rw [← ej, hT]
        exact aboveM _ ((same.1 hj).trans he')
      · exact absurd hj (htid' j (Nat.le_of_not_lt hb) _)
  · split
    swap
    · exact bot_le
    rename_i hn
    have hne : n.val ≤ e.val := hlast n hn
    by_cases hnear : e.val < n.val + 8
    · exact ((hM e).1 n (hlast n hn) hnear (same.2 (hn.trans he.symm))).trans (le_max_left _ _)
    · -- the block of `n` ends before `e`, so on the same key
      have hlt : n.val / 8 < 1250 := by have := n.isLt; omega
      have hnt : n ≤ tail ⟨n.val / 8, hlt⟩ := Fin.le_def.2 (by show n.val ≤ n.val / 8 * 8 + 7; omega)
      have hte : tail ⟨n.val / 8, hlt⟩ ≤ e := Fin.le_def.2 (by show n.val / 8 * 8 + 7 ≤ e.val; omega)
      have hkt : k (tail ⟨n.val / 8, hlt⟩) = g := le_antisymm (he ▸ hk hte) (hn ▸ hk hnt)
      have h1 : h n ≤ M (tail ⟨n.val / 8, hlt⟩) := (hM _).1 n hnt (by show n.val / 8 * 8 + 7 < n.val + 8; omega) (same.2 (hn.trans hkt.symm))
      rcases ht with ⟨hno, _⟩ | ⟨e', he', hl', rfl⟩
      · exact absurd hkt (hno _)
      · have h2 := (hS (e'.castLE (by decide))).1 ((⟨n.val / 8, hlt⟩ : Fin 1250).castLE (by decide)) (hl' _ hkt)
          (by show e'.val < n.val / 8 + 2048; have := e'.isLt; omega) (by rw [htid, htid]; exact same.2 (hkt.trans he'.symm))
        rw [hT] at h2
        exact (h1.trans h2).trans (le_max_right _ _)

end Cert.Proof.Segments

end
-- ==== Proof.Numbers.lean ====
module

public import proofs.«01_k».proof.Proof.Segments

@[expose] public section

/-! # Words and extended reals: a flag as a number, a count as a number, a whole number as a word, a one-hot sum -/

noncomputable section

namespace Cert.Proof.Numbers

open Idealize.ShloMosaic

/-- A flag widened and converted is one or zero. -/
theorem flag (p : BitVec 1) : FloatOps.sitofp (F := Ideal) .f32 (BitVec.setWidth 32 p) = if p = 1#1 then (1 : EReal) else 0 := by
  show (((BitVec.setWidth 32 p).toInt : ℝ) : EReal) = _
  have h : p = 0#1 ∨ p = 1#1 := by
    have : ∀ q : BitVec 1, q = 0#1 ∨ q = 1#1 := by decide
    exact this p
  rcases h with rfl | rfl
  · rw [if_neg (by decide), show (BitVec.setWidth 32 0#1).toInt = 0 from by decide]; simp
  · rw [if_pos rfl, show (BitVec.setWidth 32 1#1).toInt = 1 from by decide]; simp

/-- A test of equality of words is the flag one exactly when they are equal. -/
theorem eq_flag {w : ℕ} (a b : BitVec w) : IntOp.cmpi .eq a b = 1#1 ↔ a = b := by
  simp only [IntOp.cmpi]
  by_cases h : a = b
  · simp [h]
  · rw [beq_false_of_ne h]; simp [h]

/-- A sum of ones and zeros is a count. -/
theorem sum_flags {ι : Type} [Fintype ι] (P : ι → Prop) [DecidablePred P] :
    ∑ n, (if P n then (1 : EReal) else 0) = ((Finset.univ.filter P).card : EReal) := by
  rw [Finset.sum_boole]

/-- A count converted to a word is the word of the count. -/
theorem fptosi_nat (n : ℕ) (hn : n < 2 ^ 31) : FloatOps.fptosi (F := Ideal) (φ := .f32) 32 (n : EReal) = BitVec.ofNat 32 n := by
  show BitVec.ofInt 32 (Ideal.toIntClamped (-(2 ^ (32 - 1) : Nat)) ((2 ^ (32 - 1) : Nat) - 1) (n : EReal)) = _
  rw [show ((n : EReal)) = (((n : ℝ)) : EReal) from (EReal.coe_natCast (n := n)).symm, Ideal.toIntClamped_coe, if_pos (Nat.cast_nonneg n),
    Int.floor_natCast, min_eq_right (by norm_num; omega), max_eq_right (by norm_num)]
  exact BitVec.ofInt_natCast 32 n

/-- The index `x` is one less than the count `c`. -/
theorem pick_flag {K : ℕ} (hK : K < 2 ^ 31) (x : Fin K) (c : ℕ) (hc : c < 2 ^ 31) :
    BitVec.ofNat 32 x.val = IntOp.subi (BitVec.ofNat 32 c) 1#32 ↔ x.val + 1 = c := by
  have hx := x.isLt
  show BitVec.ofNat 32 x.val = BitVec.ofNat 32 c - 1#32 ↔ _
  rw [← BitVec.toNat_inj]
  simp only [BitVec.toNat_ofNat, BitVec.toNat_sub]
  rw [Nat.mod_eq_of_lt (show x.val < 2 ^ 32 by omega), Nat.mod_eq_of_lt (show c < 2 ^ 32 by omega)]
  omega

/-- A one-hot sum reads the hot entry. -/
theorem sum_pick {K : ℕ} (P : Fin K → Prop) [DecidablePred P] (v : Fin K → EReal) (e : Fin K) (he : ∀ x, P x ↔ x = e) :
    ∑ x, (if P x then (1 : EReal) else 0) * v x = v e := by
  rw [Finset.sum_eq_single e]
  · rw [if_pos ((he e).2 rfl), one_mul]
  · intro x _ hx
    rw [if_neg (fun h => hx ((he x).1 h)), zero_mul]
  · intro h; exact absurd (Finset.mem_univ _) h

/-- The counts of the keys up to `g`, added up as extended reals. -/
theorem sum_size_real {N G : ℕ} (Q : Fin N → Prop) [DecidablePred Q] (k : Fin N → ℕ) (g : Fin G) :
    ∑ x : Fin G, (if x.val ≤ g.val then (1 : EReal) else 0) * ((Finset.univ.filter fun n : Fin N => k n = x.val ∧ Q n).card : EReal)
      = ((Finset.univ.filter fun n : Fin N => k n ≤ g.val ∧ Q n).card : EReal) := by
  rw [← Segments.sum_size Q k g, Nat.cast_sum]
  refine Finset.sum_congr rfl fun x _ => ?_
  split
  · rw [one_mul, Nat.one_mul]
  · rw [zero_mul, Nat.zero_mul, Nat.cast_zero]

/-- Whether a count is above zero. -/
theorem pos_flag (n : ℕ) : BitVec.ofBool (decide ((0 : EReal) < (n : EReal))) = 1#1 ↔ 0 < n := by
  have e : ((0 : EReal) < (n : EReal)) ↔ 0 < n := by exact_mod_cast Iff.rfl
  by_cases h : 0 < n
  · rw [decide_eq_true (e.2 h)]; simp [h]
  · rw [decide_eq_false (fun h' => h (e.1 h'))]; simp [h]

/-- Both flags. -/
theorem and_flag (p q : BitVec 1) : IntOp.andi p q = 1#1 ↔ p = 1#1 ∧ q = 1#1 := by
  have : ∀ p q : BitVec 1, p &&& q = 1#1 ↔ p = 1#1 ∧ q = 1#1 := by decide
  exact this p q

end Cert.Proof.Numbers

end
-- ==== Proof.Global.lean ====
module

public import proofs.«01_k».proof.Proof.Rows
public import proofs.«01_k».proof.Proof.Numbers
public import Idealize.ShloMosaic.Lib.Routing.Words

@[expose] public section

set_option maxRecDepth 16384

/-! # The pooled features as the kernel computes them: mean, maximum and sum over the rows of each graph -/

noncomputable section

namespace Cert.Proof.Global

open Idealize.ShloMosaic Cert.KernelIdeal Cert.KernelIdeal.Gen Cert.Proof.Scan Cert.Proof.Segments Cert.Proof.Numbers

/-! ## Membership and counts -/

section Counts

variable {b : Fin 10000 → BitVec 32} {v10 : IVec S1x10000 32} (h10 : ∀ n, v10 (ix2 0 n) = b n)

/-- The word of a small number is the id `x` exactly when the id's value is that number. -/
theorem word_eq (x : BitVec 32) {g : ℕ} (hg : g < 2 ^ 32) : x = BitVec.ofNat 32 g ↔ x.toNat = g := by
  rw [← BitVec.toNat_inj, BitVec.toNat_ofNat, Nat.mod_eq_of_lt hg]

include h10 in
/-- The membership array: one where the row's graph is the graph. -/
theorem member_apply (g : Fin 64) (n : Fin 10000) :
    k0_pay5 (F := Ideal) v10 (ix2 g n) = if (b n).toNat = g.val then (1 : EReal) else 0 := by
  have e : k0_pay5 (F := Ideal) v10 (ix2 g n)
      = FloatOps.sitofp (F := Ideal) .f32 (BitVec.setWidth 32 (IntOp.cmpi .eq (v10 (ix2 0 n)) (BitVec.ofNat 32 g.val))) := by
    pointwise [k0_pay5]
  rw [e, flag, h10]
  refine if_congr ((eq_flag _ _).trans (word_eq _ (by have := g.isLt; omega))) rfl rfl

include h10 in
/-- The counts. -/
theorem count_apply (g : Fin 64) (z : Fin 1) :
    k0_pay6 (F := Ideal) v10 (ix2 g z) = ((size (fun n => (b n).toNat) g.val : ℕ) : EReal) := by
  have e : k0_pay6 (F := Ideal) v10 (ix2 g z) = ∑ n : Fin 10000, k0_pay5 (F := Ideal) v10 (ix2 g n) := by
    pointwise [k0_pay6]
  rw [e, Finset.sum_congr rfl fun n _ => member_apply h10 g n, sum_flags]
  rfl

/-- The triangle of ones. -/
theorem triangle_apply (g x : Fin 64) : k0_pay7 (F := Ideal) (ix2 g x) = if x.val ≤ g.val then (1 : EReal) else 0 := by
  have e : k0_pay7 (F := Ideal) (ix2 g x)
      = FloatOps.sitofp (F := Ideal) .f32 (BitVec.setWidth 32 (IntOp.cmpi .sge (BitVec.ofNat 32 g.val) (BitVec.ofNat 32 x.val))) := by
    pointwise [k0_pay7]
  rw [e, flag]
  have hf : ∀ g x : Fin 64, IntOp.cmpi .sge (BitVec.ofNat 32 g.val) (BitVec.ofNat 32 x.val) = 1#1 ↔ x.val ≤ g.val := by decide +kernel
  exact if_congr (hf g x) rfl rfl

include h10 in
/-- One less than how many rows have a graph up to `g`. -/
theorem ends_apply (g : Fin 64) (z : Fin 1) :
    k0_pay8 (F := Ideal) v10 (ix2 g z) = IntOp.subi (BitVec.ofNat 32 (rank (fun n => (b n).toNat) g.val)) 1#32 := by
  have e : k0_pay8 (F := Ideal) v10 (ix2 g z)
      = IntOp.subi (FloatOps.fptosi (F := Ideal) (φ := .f32) 32 (∑ x : Fin 64, k0_pay7 (F := Ideal) (ix2 g x) * k0_pay6 (F := Ideal) v10 (ix2 x z))) 1#32 := by
    pointwise [k0_pay8]
  have s := sum_size_real (fun _ => True) (fun n => (b n).toNat) g
  simp only [and_true] at s
  rw [e, Finset.sum_congr rfl fun x _ => by rw [triangle_apply, count_apply h10]]
  unfold size
  rw [s]
  exact congrArg (fun w => IntOp.subi w 1#32) (fptosi_nat (rank (fun n => (b n).toNat) g.val) (Nat.lt_of_le_of_lt (rank_le _ _) (by norm_num)))

/-- Whether a row ends a block of eight, as the kernel tests it. -/
theorem tail_flag (n : Fin 10000) :
    FloatOps.sitofp (F := Ideal) .f32 (BitVec.setWidth 32 (IntOp.cmpi .eq
        (Scalar.select (k0_pay29 (ix2 0 n)) (IntOp.addi (k0_pay28 (ix2 0 n)) (Scalar.select (Scalar.cmpi .eq 8#32 0#32) 1#32 8#32)) (k0_pay28 (ix2 0 n))) 7#32))
      = if n.val % 8 = 7 then (1 : EReal) else 0 := by
  have e : k0_pay28 (ix2 0 n) = BitVec.ofNat 32 (n.val % 8) := by
    have e0 : k0_pay28 (ix2 0 n) = IntOp.remsi .vector (BitVec.ofNat 32 n.val) 8#32 := by pointwise [k0_pay28]; rfl
    rw [e0]
    exact Routing.remsi_word .vector (by have := n.isLt; omega) (by norm_num) (by norm_num)
  have e' : k0_pay29 (ix2 0 n) = IntOp.andi (IntOp.xori (IntOp.cmpi .slt (BitVec.ofNat 32 (n.val % 8)) 0#32) (Scalar.cmpi .slt
      (Scalar.select (Scalar.cmpi .eq 8#32 0#32) 1#32 8#32) 0#32)) (IntOp.cmpi .ne (BitVec.ofNat 32 (n.val % 8)) 0#32) := by
    rw [← e]
    pointwise [k0_pay29]
  rw [flag, e', e]
  have hf : ∀ r : Fin 8, IntOp.cmpi .eq (Scalar.select (IntOp.andi (IntOp.xori (IntOp.cmpi .slt (BitVec.ofNat 32 r.val) 0#32) (Scalar.cmpi .slt
      (Scalar.select (Scalar.cmpi .eq 8#32 0#32) 1#32 8#32) 0#32)) (IntOp.cmpi .ne (BitVec.ofNat 32 r.val) 0#32))
      (IntOp.addi (BitVec.ofNat 32 r.val) (Scalar.select (Scalar.cmpi .eq 8#32 0#32) 1#32 8#32)) (BitVec.ofNat 32 r.val)) 7#32 = 1#1 ↔ r.val = 7 := by
    decide +kernel
  exact if_congr (hf ⟨n.val % 8, by omega⟩) rfl rfl

include h10 in
/-- How many blocks of eight end on graph `g`. -/
theorem tail_count (g : Fin 64) :
    ∑ n : Fin 10000, k0_pay5 (F := Ideal) v10 (ix2 g n) * FloatOps.sitofp (F := Ideal) .f32 (BitVec.setWidth 32 (IntOp.cmpi .eq
        (Scalar.select (k0_pay29 (ix2 0 n)) (IntOp.addi (k0_pay28 (ix2 0 n)) (Scalar.select (Scalar.cmpi .eq 8#32 0#32) 1#32 8#32)) (k0_pay28 (ix2 0 n))) 7#32))
      = ((size (fun t : Fin 1250 => (b (tail t)).toNat) g.val : ℕ) : EReal) := by
  rw [Finset.sum_congr rfl fun n _ => by rw [member_apply h10, tail_flag]]
  rw [show (size (fun t : Fin 1250 => (b (tail t)).toNat) g.val) = (Finset.univ.filter fun n : Fin 10000 => (b n).toNat = g.val ∧ n.val % 8 = 7).card from
    (card_tails fun n => (b n).toNat = g.val).symm, ← sum_flags]
  refine Finset.sum_congr rfl fun n _ => ?_
  by_cases h : (b n).toNat = g.val
  · rw [if_pos h, one_mul]
    exact if_congr ⟨fun h' => ⟨h, h'⟩, fun h' => h'.2⟩ rfl rfl
  · rw [if_neg h, zero_mul, if_neg fun h' => h h'.1]

/-- The blocks that end on a graph up to `g`, from the blocks that end on each. -/
theorem tail_rank (g : Fin 64) :
    ∑ x : Fin 64, k0_pay7 (F := Ideal) (ix2 g x) * ((size (fun t : Fin 1250 => (b (tail t)).toNat) x.val : ℕ) : EReal)
      = ((rank (fun t : Fin 1250 => (b (tail t)).toNat) g.val : ℕ) : EReal) := by
  have s := sum_size_real (fun _ => True) (fun t : Fin 1250 => (b (tail t)).toNat) g
  simp only [and_true] at s
  rw [Finset.sum_congr rfl fun x _ => by rw [triangle_apply]]
  exact s

end Counts

end Cert.Proof.Global

end
-- ==== Proof.Pooled.lean ====
module

public import proofs.«01_k».proof.Proof.Global
public import Idealize.ShloMosaic.PureOps.IdealRules

@[expose] public section

set_option maxRecDepth 16384

/-! # The pooled features of a graph, and that the kernel computes them -/

noncomputable section

namespace Cert.Proof.Pooled

open Idealize.ShloMosaic Cert.Proof.Scan Cert.Proof.Segments Cert.Proof.Numbers

/-- The sum of a feature over the rows of a graph. -/
def total (k : Fin 10000 → ℕ) (h : Fin 10000 → Fin 256 → EReal) (g : Fin 64) (l : Fin 256) : EReal :=
  ∑ n, if k n = g.val then h n l else 0

/-- The maximum of a feature over the rows of a graph, the least value where there are none. -/
def top (k : Fin 10000 → ℕ) (h : Fin 10000 → Fin 256 → EReal) (g : Fin 64) (l : Fin 256) : EReal :=
  Finset.univ.fold max ⊥ fun n => if k n = g.val then h n l else ⊥

/-- The three pooled features side by side: mean, maximum, sum. -/
def pooled (k : Fin 10000 → ℕ) (h : Fin 10000 → Fin 256 → EReal) (g : Fin 64) (l : Fin 768) : EReal :=
  if h1 : l.val < 256 then Ideal.div (total k h g ⟨l.val, h1⟩) (max ((size k g.val : ℕ) : EReal) 1)
  else if h2 : l.val - 256 < 256 then top k h g ⟨l.val - 256, h2⟩
  else total k h g ⟨l.val - 256 - 256, by have := l.isLt; omega⟩

/-- The maximum over no rows. -/
theorem top_empty {k : Fin 10000 → ℕ} (h : Fin 10000 → Fin 256 → EReal) {g : Fin 64} (l : Fin 256) (hg : ¬ 0 < size k g.val) :
    top k h g l = ⊥ := by
  refine le_antisymm (Finset.fold_max_le _ |>.2 ⟨le_rfl, fun n _ => ?_⟩) bot_le
  rw [if_neg fun h' => hg ((size_pos_iff k g.val).2 ⟨n, h'⟩)]

/-! ## The last row of every block of eight -/

section Fold

/-- The maximum of the last of eight, when the others are the least value. -/
theorem fold_last (f : Fin 8 → EReal) : Finset.univ.fold max ⊥ (fun x : Fin 8 => if x.val = 7 then f x else ⊥) = f 7 := by
  refine le_antisymm (Finset.fold_max_le _ |>.2 ⟨bot_le, fun x _ => ?_⟩) (Finset.le_fold_max _ |>.2 (.inr ⟨7, Finset.mem_univ _, ?_⟩))
  · split
    · next h => rw [show x = 7 from Fin.ext h]
    · exact bot_le
  · exact le_of_eq (if_pos rfl).symm

/-- The signed maximum with minus one of a word that is not negative. -/
theorem maxsi_neg_one {w : BitVec 32} (hw : w.toNat < 2 ^ 31) : IntOp.maxsi w 4294967295#32 = w := by
  have h1 : w.toInt = (w.toNat : ℤ) := BitVec.toInt_eq_toNat_of_lt (by omega)
  have h2 : (4294967295#32 : BitVec 32).toInt = -1 := by decide
  have hs : (4294967295#32 : BitVec 32).slt w = true := by rw [BitVec.slt, h1, h2]; exact decide_eq_true (by omega)
  have hs' : w.slt 4294967295#32 = false := by rw [BitVec.slt, h1, h2]; exact decide_eq_false (by omega)
  simp [IntOp.maxsi, hs, hs']

/-- The signed maximum of the last of eight, when the others are minus one. -/
theorem fold_last_word (f : Fin 8 → BitVec 32) (hf : (f 7).toNat < 2 ^ 31) :
    Finset.univ.fold IntOp.maxsi 2147483648#32 (fun x : Fin 8 => if x.val = 7 then f x else 4294967295#32) = f 7 := by
  rw [← Finset.insert_erase (Finset.mem_univ (7 : Fin 8)), Finset.fold_insert (Finset.notMem_erase _ _)]
  have e : (Finset.univ.erase (7 : Fin 8)).fold IntOp.maxsi 2147483648#32 (fun x : Fin 8 => if x.val = 7 then f x else 4294967295#32)
      = (Finset.univ.erase (7 : Fin 8)).fold IntOp.maxsi 2147483648#32 (fun _ => 4294967295#32) :=
    Finset.fold_congr fun x hx => if_neg fun h => (Finset.mem_erase.1 hx).1 (Fin.ext h)
  have e' : (Finset.univ.erase (7 : Fin 8)).fold IntOp.maxsi 2147483648#32 (fun _ => 4294967295#32) = 4294967295#32 := by decide +kernel
  rw [e, e']
  exact (congrArg (IntOp.maxsi · _) (if_pos rfl)).trans (maxsi_neg_one hf)

/-- The test for the last of eight. -/
theorem last_flag {α : Type} (x : Fin 8) (a c : α) :
    Scalar.select (IntOp.cmpi .eq (BitVec.ofNat 32 x.val) 7#32) a c = if x.val = 7 then a else c := by
  have hf : ∀ x : Fin 8, IntOp.cmpi .eq (BitVec.ofNat 32 x.val) 7#32 = 1#1 ↔ x.val = 7 := by decide +kernel
  show (if IntOp.cmpi .eq (BitVec.ofNat 32 x.val) 7#32 = 1#1 then a else c) = _
  exact if_congr (hf x) rfl rfl

end Fold

open Cert.KernelIdeal Cert.KernelIdeal.Gen

/-- The filler of the tails is the least value. -/
theorem filler : Named.named (F := Ideal) Cert.KernelIdeal.κ "sent" (φ := .bf16) 65378#16 = (⊥ : EReal) :=
  IdealRules.named_const.ideal_named_scalar Cert.KernelIdeal.κ "sent" _ ⊥ rfl

section Tails

variable (v9 : IVec S10000x1 32) (v42 : FVec Ideal S9999x256 .bf16) (v43 : FVec Ideal S1x256 .bf16)

/-- A tail is the running maximum at the last row of its block. -/
theorem tails_apply (b : Fin 1250) (l : Fin 256) :
    k0_pay15 (F := Ideal) v9 v42 v43 (ix2 (b.castLE (by decide)) l) = k0_pay13 (F := Ideal) v9 v42 v43 (ix2 (tail b) l) := by
  have e : k0_pay15 (F := Ideal) v9 v42 v43 (ix2 (b.castLE (by decide)) l)
      = if h : (b.castLE (by decide : 1250 ≤ 1280)).val < 1250 then Finset.fold max (Ideal.ofBits .bf16 65408#16) (fun x : Fin 8 =>
          Scalar.select (IntOp.cmpi .eq (BitVec.ofNat 32 x.val) 7#32)
            (k0_pay13 (F := Ideal) v9 v42 v43 (ix2 ⟨(b.castLE (by decide : 1250 ≤ 1280)).val * 8 + x.val, by have := x.isLt; omega⟩ l))
            (Named.named (F := Ideal) Cert.KernelIdeal.κ "sent" (φ := .bf16) 65378#16)) Finset.univ
        else Named.named (F := Ideal) Cert.KernelIdeal.κ "sent" (φ := .bf16) 65378#16 := by
    pointwise [k0_pay15, k0_pay14]
  rw [e]
  refine (dif_pos (show (b.castLE (by decide : 1250 ≤ 1280)).val < 1250 from b.isLt)).trans ?_
  rw [ofBits_neg_inf_short, filler]
  simp only [last_flag]
  exact fold_last fun x : Fin 8 => k0_pay13 (F := Ideal) v9 v42 v43 (ix2 ⟨b.val * 8 + x.val, by have := x.isLt; have := b.isLt; omega⟩ l)

/-- The id of a tail is the id of the last row of its block. -/
theorem tail_ids_apply (b : Fin 1250) (hb : (v9 (ix2 (tail b) 0)).toNat < 2 ^ 31) :
    k0_pay16 v9 (ix2 (b.castLE (by decide)) 0) = v9 (ix2 (tail b) 0) := by
  have e : k0_pay16 v9 (ix2 (b.castLE (by decide)) 0)
      = if h : (b.castLE (by decide : 1250 ≤ 1280)).val < 1250 then Finset.fold IntOp.maxsi 2147483648#32 (fun x : Fin 8 =>
          Scalar.select (IntOp.cmpi .eq (BitVec.ofNat 32 x.val) 7#32)
            (v9 (ix2 ⟨(b.castLE (by decide : 1250 ≤ 1280)).val * 8 + x.val, by have := x.isLt; omega⟩ 0)) 4294967295#32) Finset.univ
        else 4294967295#32 := by
    pointwise [k0_pay16, k0_pay14]
  rw [e]
  refine (dif_pos (show (b.castLE (by decide : 1250 ≤ 1280)).val < 1250 from b.isLt)).trans ?_
  simp only [last_flag]
  exact fold_last_word (fun x : Fin 8 => v9 (ix2 ⟨b.val * 8 + x.val, by have := x.isLt; have := b.isLt; omega⟩ 0)) hb

/-- Past the blocks the ids are minus one. -/
theorem tail_ids_past (b : Fin 1280) (hb : 1250 ≤ b.val) : k0_pay16 v9 (ix2 b 0) = 4294967295#32 := by
  have e : k0_pay16 v9 (ix2 b 0)
      = if h : b.val < 1250 then Finset.fold IntOp.maxsi 2147483648#32 (fun x : Fin 8 =>
          Scalar.select (IntOp.cmpi .eq (BitVec.ofNat 32 x.val) 7#32)
            (v9 (ix2 ⟨b.val * 8 + x.val, by have := x.isLt; omega⟩ 0)) 4294967295#32) Finset.univ
        else 4294967295#32 := by
    pointwise [k0_pay16, k0_pay14]
  rw [e, dif_neg (by omega)]

end Tails

/-- Ids whose values never fall stand together. -/
theorem together_of_mono {N : ℕ} {id : Fin N → BitVec 32} (h : Monotone fun n => (id n).toNat) : Together id := fun j m n hj hn e =>
  BitVec.eq_of_toNat_eq (le_antisymm (h hn) ((congrArg BitVec.toNat e).symm.le.trans (h hj)))

/-! ## The kernel's pooled features -/

section Kernel

variable {b : Fin 10000 → BitVec 32} (hmono : Monotone fun n => (b n).toNat) (hpos : ∀ n, (b n).toNat < 2 ^ 31)
  {v10 : IVec S1x10000 32} (h10 : ∀ n, v10 (ix2 0 n) = b n) {v8 : IVec S10000x1 32} (h8 : ∀ n, v8 (ix2 n 0) = b n)
  (v0 : FVec Ideal S144x256 .f32) (v2 : FVec Ideal S10000x256 .f32) (v3 : FVec Ideal S256x256 .f32)

include h10 in
/-- The sums. -/
theorem sum_apply (g : Fin 64) (l : Fin 256) :
    k0_pay9 (F := Ideal) v0 v2 v3 v10 (ix2 g l) = total (fun n => (b n).toNat) (fun n l => k0_pay3 (F := Ideal) v0 v2 v3 (ix2 n l)) g l := by
  have e : k0_pay9 (F := Ideal) v0 v2 v3 v10 (ix2 g l)
      = ∑ n : Fin 10000, k0_pay5 (F := Ideal) v10 (ix2 g n) * k0_pay3 (F := Ideal) v0 v2 v3 (ix2 n l) := by
    pointwise [k0_pay9]
  rw [e]
  refine Finset.sum_congr rfl fun n _ => ?_
  rw [Global.member_apply h10]
  split
  · rw [one_mul]
  · rw [zero_mul]

include hmono h10 in
/-- The running maximum at the last row of a graph that has one. -/
theorem last_apply (v70 : FVec Ideal S10000x256 .bf16) (g : Fin 64) (l : Fin 256) {e : Fin 10000}
    (he : e.val + 1 = rank (fun n => (b n).toNat) g.val) (hg : 0 < size (fun n => (b n).toNat) g.val) :
    k0_pay27 (F := Ideal) (k0_pay6 (F := Ideal) v10) (k0_pay8 (F := Ideal) v10) v70 (ix2 g l) = v70 (ix2 e l) := by
  have e1 : k0_pay27 (F := Ideal) (k0_pay6 (F := Ideal) v10) (k0_pay8 (F := Ideal) v10) v70 (ix2 g l)
      = ∑ x : Fin 10000, FloatOps.sitofp (F := Ideal) .f32 (BitVec.setWidth 32 (IntOp.andi (IntOp.cmpi .eq (BitVec.ofNat 32 x.val) (k0_pay8 (F := Ideal) v10 (ix2 g 0)))
          (BitVec.ofBool (decide ((0 : EReal) < k0_pay6 (F := Ideal) v10 (ix2 g 0)))))) * v70 (ix2 x l) := by
    pointwise [k0_pay27]
  rw [e1, Global.ends_apply h10, Global.count_apply h10]
  simp only [flag]
  refine sum_pick _ (fun x => v70 (ix2 x l)) e fun x => ?_
  rw [and_flag, eq_flag, pick_flag (by norm_num) x _ (Nat.lt_of_le_of_lt (rank_le _ _) (by norm_num)), pos_flag, ← he]
  exact ⟨fun h => Fin.ext (by omega), fun h => ⟨by rw [h], hg⟩⟩

/-- How many blocks end on a graph, as the kernel counts them. -/
def tailCount (v10 : IVec S1x10000 32) (g : Fin 64) : EReal :=
  ∑ n : Fin 10000, k0_pay5 (F := Ideal) v10 (ix2 g n) * FloatOps.sitofp (F := Ideal) .f32 (BitVec.setWidth 32 (IntOp.cmpi .eq
    (Scalar.select (k0_pay29 (ix2 0 n)) (IntOp.addi (k0_pay28 (ix2 0 n)) (Scalar.select (Scalar.cmpi .eq 8#32 0#32) 1#32 8#32)) (k0_pay28 (ix2 0 n))) 7#32))

/-- The maximum as the kernel puts it together from the last rows (`v242`) and the scanned tails (`v230`). -/
def topPart (v10 : IVec S1x10000 32) (v230 : FVec Ideal S1280x256 .bf16) (v242 : FVec Ideal S64x256 .f32) (g : Fin 64) (l : Fin 256) : EReal :=
  if 0 < k0_pay6 (F := Ideal) v10 (ix2 g 0) then
    max (v242 (ix2 g l)) (if 0 < tailCount v10 g then
      ∑ x : Fin 1280, FloatOps.sitofp (F := Ideal) .f32 (BitVec.setWidth 32 (IntOp.andi (IntOp.cmpi .eq (BitVec.ofNat 32 x.val)
          (IntOp.subi (FloatOps.fptosi (F := Ideal) (φ := .f32) 32 (∑ x : Fin 64, k0_pay7 (F := Ideal) (ix2 g x) * tailCount v10 x)) 1#32))
        (BitVec.ofBool (decide ((0 : EReal) < tailCount v10 g))))) * v230 (ix2 x l)
      else Ideal.ofBits .f32 4286578688#32)
  else Ideal.ofBits .f32 4286578688#32

/-- The pooled features as the kernel puts them together, read at one position. -/
theorem parts_apply (v10 : IVec S1x10000 32) (v30 : FVec Ideal S64x256 .f32) (v230 : FVec Ideal S1280x256 .bf16) (v242 : FVec Ideal S64x256 .f32)
    (g : Fin 64) (l : Fin 768) :
    k0_pay30 (F := Ideal) (k0_pay5 v10) (k0_pay6 v10) k0_pay7 v30 v230 v242 (Scalar.select (Scalar.cmpi .eq 8#32 0#32) 1#32 8#32) k0_pay28 k0_pay29 (ix2 g l)
      = if h1 : l.val < 256 then Ideal.div (v30 (ix2 g ⟨l.val, h1⟩)) (max (k0_pay6 (F := Ideal) v10 (ix2 g 0)) 1)
        else if h2 : l.val - 256 < 256 then topPart v10 v230 v242 g ⟨l.val - 256, h2⟩
        else v30 (ix2 g ⟨l.val - 256 - 256, by have := l.isLt; omega⟩) := by
  pointwise [k0_pay30]
  rfl

include hmono hpos h10 h8 in
/-- The maximum over the rows of a graph: the running maximum at its last row, and the scan at the last block that ends on it. -/
theorem topPart_eq (g : Fin 64) (l : Fin 256) :
    topPart v10 (Rows.scan (k0_pay15 (k0_pay4 (F := Ideal) v8) (k0_pay11 v0 v2 v3 v8) (k0_pay12 v0 v2 v3)) (k0_pay16 (k0_pay4 (F := Ideal) v8)))
        (k0_pay27 (k0_pay6 v10) (k0_pay8 (F := Ideal) v10) (k0_pay13 (k0_pay4 (F := Ideal) v8) (k0_pay11 v0 v2 v3 v8) (k0_pay12 v0 v2 v3))) g l
      = top (fun n => (b n).toNat) (fun n l => k0_pay3 (F := Ideal) v0 v2 v3 (ix2 n l)) g l := by
  have h9 : ∀ n, k0_pay4 (F := Ideal) v8 (ix2 n 0) = b n := fun n => by
    rw [show k0_pay4 (F := Ideal) v8 = v8 from shapeCast_self _ _]; exact h8 n
  have hc : ∀ x : Fin 64, tailCount v10 x = ((size (fun t : Fin 1250 => (b (tail t)).toNat) x.val : ℕ) : EReal) := fun x => Global.tail_count h10 x
  unfold topPart
  simp only [hc, Global.count_apply h10, Global.tail_rank, ofBits_neg_inf]
  by_cases hg : 0 < size (fun n => (b n).toNat) g.val
  · obtain ⟨e, he, hek, hlast⟩ := exists_last hmono g.val hg
    rw [if_pos (by exact_mod_cast hg), last_apply hmono h10 _ g l he hg]
    have hid : Together fun r : Fin 10000 => k0_pay4 (F := Ideal) v8 (ix2 r 0) := by
      simp only [h9]; exact together_of_mono hmono
    have htid : ∀ t : Fin 1250, k0_pay16 (k0_pay4 (F := Ideal) v8) (ix2 (t.castLE (by decide)) 0) = k0_pay4 (F := Ideal) v8 (ix2 (tail t) 0) := fun t =>
      tail_ids_apply _ t (by rw [h9]; exact hpos _)
    have hpast : ∀ t : Fin 1280, 1250 ≤ t.val → (k0_pay16 (k0_pay4 (F := Ideal) v8) (ix2 t 0)).toNat = 2 ^ 32 - 1 := fun t ht => by
      rw [tail_ids_past _ t ht]; rfl
    have htm : Monotone fun t : Fin 1280 => (k0_pay16 (k0_pay4 (F := Ideal) v8) (ix2 t 0)).toNat := by
      intro s t hst
      by_cases ht : t.val < 1250
      · have hs : s.val < 1250 := lt_of_le_of_lt hst ht
        have es := htid ⟨s.val, hs⟩
        have et := htid ⟨t.val, ht⟩
        have hst' : (⟨s.val, hs⟩ : Fin 1250) ≤ ⟨t.val, ht⟩ := hst
        show (k0_pay16 (k0_pay4 (F := Ideal) v8) (ix2 ((⟨s.val, hs⟩ : Fin 1250).castLE (by decide)) 0)).toNat
          ≤ (k0_pay16 (k0_pay4 (F := Ideal) v8) (ix2 ((⟨t.val, ht⟩ : Fin 1250).castLE (by decide)) 0)).toNat
        rw [es, et, h9, h9]
        exact hmono (tail_mono hst')
      · show _ ≤ (k0_pay16 (k0_pay4 (F := Ideal) v8) (ix2 t 0)).toNat
        rw [hpast t (by omega)]
        have := (k0_pay16 (k0_pay4 (F := Ideal) v8) (ix2 s 0)).isLt
        show (k0_pay16 (k0_pay4 (F := Ideal) v8) (ix2 s 0)).toNat ≤ _
        omega
    refine segment_max (id := fun r : Fin 10000 => k0_pay4 (F := Ideal) v8 (ix2 r 0)) (k := fun n => (b n).toNat)
      (fun n => by rw [h9]) hmono (Rows.rows_cover v0 v2 v3 v8 hid l)
      (tid := fun t => k0_pay16 (k0_pay4 (F := Ideal) v8) (ix2 t 0)) htid (fun t => tails_apply _ _ _ t l)
      (fun t ht n h => ?_) (Rows.scan_cover _ _ (together_of_mono htm) l) hek hlast ?_
    · have h' := congrArg BitVec.toNat h
      rw [hpast t ht, h9] at h'
      have := hpos n
      omega
    · by_cases ht : 0 < size (fun t : Fin 1250 => (b (tail t)).toNat) g.val
      · obtain ⟨e', he', hek', hlast'⟩ := exists_last (hmono.comp tail_mono) g.val ht
        refine .inr ⟨e', hek', hlast', ?_⟩
        rw [if_pos (by exact_mod_cast ht), fptosi_nat _ (Nat.lt_of_le_of_lt (rank_le _ _) (by norm_num))]
        simp only [flag]
        refine sum_pick _ (fun x => Rows.scan (k0_pay15 (k0_pay4 (F := Ideal) v8) (k0_pay11 v0 v2 v3 v8) (k0_pay12 v0 v2 v3)) (k0_pay16 (k0_pay4 (F := Ideal) v8)) (ix2 x l))
          (e'.castLE (by decide)) fun x => ?_
        rw [and_flag, eq_flag, pick_flag (by norm_num) x _ (Nat.lt_of_le_of_lt (rank_le _ _) (by norm_num)), pos_flag]
        exact ⟨fun h => Fin.ext (by have := h.1; have h2 := he'; show x.val = e'.val; exact Nat.succ_injective (this.trans h2.symm)),
          fun h => ⟨by rw [h]; exact he', ht⟩⟩
      · refine .inl ⟨fun t h => ht ((size_pos_iff _ _).2 ⟨t, h⟩), ?_⟩
        rw [if_neg (by intro h; exact ht (by exact_mod_cast h))]
  · rw [if_neg (by intro h; exact hg (by exact_mod_cast h))]
    exact (top_empty _ l hg).symm

include hmono hpos h10 h8 in
/-- The kernel's pooled features are the mean, the maximum and the sum over the rows of each graph. -/
theorem pooled_apply (g : Fin 64) (l : Fin 768) :
    k0_pay30 (F := Ideal) (k0_pay5 v10) (k0_pay6 v10) k0_pay7 (k0_pay9 v0 v2 v3 v10)
        (Rows.scan (k0_pay15 (k0_pay4 (F := Ideal) v8) (k0_pay11 v0 v2 v3 v8) (k0_pay12 v0 v2 v3)) (k0_pay16 (k0_pay4 (F := Ideal) v8)))
        (k0_pay27 (k0_pay6 v10) (k0_pay8 (F := Ideal) v10) (k0_pay13 (k0_pay4 (F := Ideal) v8) (k0_pay11 v0 v2 v3 v8) (k0_pay12 v0 v2 v3)))
        (Scalar.select (Scalar.cmpi .eq 8#32 0#32) 1#32 8#32) k0_pay28 k0_pay29 (ix2 g l)
      = pooled (fun n => (b n).toNat) (fun n l => k0_pay3 (F := Ideal) v0 v2 v3 (ix2 n l)) g l := by
  rw [parts_apply]
  unfold pooled
  split
  · rw [sum_apply h10, Global.count_apply h10]
  · split
    · exact topPart_eq hmono hpos h10 h8 v0 v2 v3 g _
    · rw [sum_apply h10]

end Kernel

end Cert.Proof.Pooled

end
-- ==== Proof.Value.lean ====
module

public import proofs.«01_k».proof.Proof.Pack
public import proofs.«01_k».proof.Proof.Pooled
public import Idealize.ShloMosaic.Lib.Pipeline.ValueKit.Basic

@[expose] public section

set_option maxRecDepth 16384

/-! # What the kernel's result array holds -/

noncomputable section

namespace Cert.Proof.Value

open Idealize.ShloMosaic Idealize.ShloMosaic.TcCoe Cert.KernelIdeal Cert.KernelIdeal.Gen Cert.KernelIdeal.Run Cert.Proof.Pooled

/-- The result from the staged arrays: the rows, the ids down a column and along a row, the two large matrices, the packed parameters. -/
def out (x0 : FVec Ideal S10000x256 .f32) (x1 : IVec S10000x1 32) (x2 : IVec S1x10000 32) (x3 : FVec Ideal S256x256 .f32)
    (x4 : FVec Ideal S256x768 .f32) (x5 : FVec Ideal S144x256 .f32) : FVec Ideal S64x2 .f32 :=
  k0_pay1 (F := Ideal) (k0_pay2 x5)
    (k0_pay30 (k0_pay5 x2) (k0_pay6 x2) k0_pay7 (k0_pay9 x5 x0 x3 x2)
      (Rows.scan (k0_pay15 (k0_pay4 (F := Ideal) x1) (k0_pay11 x5 x0 x3 x1) (k0_pay12 x5 x0 x3)) (k0_pay16 (k0_pay4 (F := Ideal) x1)))
      (k0_pay27 (k0_pay6 x2) (k0_pay8 (F := Ideal) x2) (k0_pay13 (k0_pay4 (F := Ideal) x1) (k0_pay11 x5 x0 x3 x1) (k0_pay12 x5 x0 x3)))
      (Scalar.select (Scalar.cmpi .eq 8#32 0#32) 1#32 8#32) k0_pay28 k0_pay29)
    x4 (constant S64x256 .f32 0x00000000#32)

/-- The body's one store leaves the result. -/
theorem body_eq (x0 : Vec Ideal S10000x256 .f32) (x1 : Vec Ideal S10000x1 .i32) (x2 : Vec Ideal S1x10000 .i32) (x3 : Vec Ideal S256x256 .f32)
    (x4 : Vec Ideal S256x768 .f32) (x5 : Vec Ideal S144x256 .f32) : out0_6 (F := Ideal) x0 x1 x2 x3 x4 x5 = out x0 x1 x2 x3 x4 x5 := by
  unfold out0_6
  have hz : (![0, 0] : Fin S64x2.rank → Nat) = fun _ => 0 := funext fun a => by fin_cases a <;> rfl
  refine (View.canon_unit_zero hz _ _).trans ?_
  unfold k0_pay36 k0_pay35 k0_pay37 k0_pay38 k0_pay39 k0_pay32 k0_pay31 k0_pay33 k0_pay34
  have h0 : View.ld x0 r0_1 = x0 := View.ld_unit_zero (off := ![0, 0]) (S := S10000x256) (funext fun a => by fin_cases a <;> rfl) _ x0
  have h1 : View.ld x1 r0_3 = x1 := View.ld_unit_zero (off := ![0, 0]) (S := S10000x1) (funext fun a => by fin_cases a <;> rfl) _ x1
  have h2 : View.ld x2 r0_4 = x2 := View.ld_unit_zero (off := ![0, 0]) (S := S1x10000) (funext fun a => by fin_cases a <;> rfl) _ x2
  have h3 : View.ld x3 r0_2 = x3 := View.ld_unit_zero (off := ![0, 0]) (S := S256x256) (funext fun a => by fin_cases a <;> rfl) _ x3
  have h4 : View.ld x4 r0_5 = x4 := View.ld_unit_zero (off := ![0, 0]) (S := S256x768) (funext fun a => by fin_cases a <;> rfl) _ x4
  have h5 : View.ld x5 r0_0 = x5 := View.ld_unit_zero (off := ![0, 0]) (S := S144x256) (funext fun a => by fin_cases a <;> rfl) _ x5
  rw [h0, h1, h2, h3, h4, h5, Rows.scan_eq]
  rfl

variable (m : (ℓ : Loc nD τ sig) → Buf (Elt Ideal) ℓ)

/-- Window 0 stages its whole array. -/
theorem stage0 (c : Dev nD) : iblk m c 0 t0_0 = V m c main_arg0 := by
  have hz : (fun a => (win0_0.index t0_0) a * main_arg0.ty.shape.size a) = fun _ => 0 := funext fun a => by fin_cases a <;> decide
  exact Memref.read_access_unit_zero (Elt Ideal) main_arg0 hz (fun a => by fin_cases a <;> decide) (V m c main_arg0)

/-- Window 1 stages its whole array. -/
theorem stage1 (c : Dev nD) : iblk m c 1 t0_0 = V m c main_call0_v0 := by
  have hz : (fun a => (win0_1.index t0_0) a * main_call0_v0.ty.shape.size a) = fun _ => 0 := funext fun a => by fin_cases a <;> decide
  exact Memref.read_access_unit_zero (Elt Ideal) main_call0_v0 hz (fun a => by fin_cases a <;> decide) (V m c main_call0_v0)

/-- Window 2 stages its whole array. -/
theorem stage2 (c : Dev nD) : iblk m c 2 t0_0 = V m c main_call0_v1 := by
  have hz : (fun a => (win0_2.index t0_0) a * main_call0_v1.ty.shape.size a) = fun _ => 0 := funext fun a => by fin_cases a <;> decide
  exact Memref.read_access_unit_zero (Elt Ideal) main_call0_v1 hz (fun a => by fin_cases a <;> decide) (V m c main_call0_v1)

/-- Window 3 stages its whole array. -/
theorem stage3 (c : Dev nD) : iblk m c 3 t0_0 = V m c main_arg3 := by
  have hz : (fun a => (win0_3.index t0_0) a * main_arg3.ty.shape.size a) = fun _ => 0 := funext fun a => by fin_cases a <;> decide
  exact Memref.read_access_unit_zero (Elt Ideal) main_arg3 hz (fun a => by fin_cases a <;> decide) (V m c main_arg3)

/-- Window 4 stages its whole array. -/
theorem stage4 (c : Dev nD) : iblk m c 4 t0_0 = V m c main_arg5 := by
  have hz : (fun a => (win0_4.index t0_0) a * main_arg5.ty.shape.size a) = fun _ => 0 := funext fun a => by fin_cases a <;> decide
  exact Memref.read_access_unit_zero (Elt Ideal) main_arg5 hz (fun a => by fin_cases a <;> decide) (V m c main_arg5)

/-- Window 5 stages its whole array. -/
theorem stage5 (c : Dev nD) : iblk m c 5 t0_0 = V m c main_call0_v10 := by
  have hz : (fun a => (win0_5.index t0_0) a * main_call0_v10.ty.shape.size a) = fun _ => 0 := funext fun a => by fin_cases a <;> decide
  exact Memref.read_access_unit_zero (Elt Ideal) main_call0_v10 hz (fun a => by fin_cases a <;> decide) (V m c main_call0_v10)

/-- What the one point writes back. -/
theorem flushed6 (c : Dev nD) : (dats m 0 c).flushed 6 t0_0 = out (V m c main_arg0) (V m c main_call0_v0) (V m c main_call0_v1) (V m c main_arg3) (V m c main_arg5) (V m c main_call0_v10) := by
  show (cfg0.win 6).cut (grid0.coords t0_0) ((dats m 0 c).after 6 t0_0) = _
  rw [after0_6, stage0, stage1, stage2, stage3, stage4, stage5, body_eq]
  rfl

/-- There is one point, so no two points' blocks meet. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => absurd ((fin_N0 t).trans (fin_N0 t').symm) hne

/-- The result array after the run. -/
theorem array_eq (c : Dev nD) : (dats m 0 c).arrAt 6 cfg0.N = out (V m c main_arg0) (V m c main_call0_v0) (V m c main_call0_v1) (V m c main_arg3) (V m c main_arg5) (V m c main_call0_v10) := by
  have h := (dats m 0 c).read_blk_arrAt_eq_flushed 6 disjoint6 cfg0.N t0_0 t0_0.isLt (by decide)
  have hz : (fun a => (win0_6.index t0_0) a * main_v0.ty.shape.size a) = fun _ => 0 := funext fun a => by fin_cases a <;> decide
  have hr := fun f => Memref.read_access_unit_zero (Elt Ideal) main_v0 hz (fun a => by fin_cases a <;> decide) f
  exact (hr _).symm.trans (h.trans (flushed6 m c))

/-- The classifier of the kernel, read at one position. -/
theorem classify_apply (v1 : FVec Ideal S144x256 .f32) (p : FVec Ideal S64x768 .f32) (w : FVec Ideal S256x768 .f32) (g : Fin 64) (l : Fin 2) :
    k0_pay1 (F := Ideal) (k0_pay2 v1) p w (constant S64x256 .f32 0x00000000#32) (ix2 g l)
      = ∑ x : Fin 128, max (∑ y : Fin 256, max (∑ z : Fin 768, p (ix2 g z) * w (ix2 y z) + v1 (ix2 137 y)) 0
            * v1 (ix2 ⟨x.val, by have := x.isLt; omega⟩ y) + v1 (ix2 138 ⟨x.val, by have := x.isLt; omega⟩)) 0
          * v1 (ix2 ⟨128 + l.val, by have := l.isLt; omega⟩ ⟨x.val, by have := x.isLt; omega⟩) + v1 (ix2 139 ⟨l.val, by have := l.isLt; omega⟩) := by
  pointwise [k0_pay1, k0_pay2]

/-- A row of the first layer, read at one position. -/
theorem row_apply (v0 : FVec Ideal S144x256 .f32) (v2 : FVec Ideal S10000x256 .f32) (v3 : FVec Ideal S256x256 .f32) (n : Fin 10000) (l : Fin 256) :
    k0_pay3 (F := Ideal) v0 v2 v3 (ix2 n l) = ∑ i : Fin 256, v2 (ix2 n i) * v3 (ix2 l i) + v0 (ix2 136 l) := by
  pointwise [k0_pay3, k0_pay2]

end Cert.Proof.Value

end
-- ==== Proof.Reference.lean ====
module

public import proofs.«01_k».proof.Proof.Gen.ReferenceIdeal.Run
public import proofs.«01_k».proof.Proof.Pooled
public import Idealize.ShloMosaic.Lib.Routing.OpsPair

@[expose] public section

set_option maxRecDepth 16384

/-! # The pooled features as the reference computes them -/

noncomputable section

namespace Cert.Proof.Reference

open Idealize.ShloMosaic Cert.ReferenceIdeal Cert.ReferenceIdeal.Gen Cert.Proof.Scan Cert.Proof.Segments Cert.Proof.Numbers Cert.Proof.Pooled

/-- The features of the rows: `x · Wᵀ + b`. -/
def hidden (x : FVec Ideal S10000x256 .f32) (w : FVec Ideal S256x256 .f32) (b : FVec Ideal S256 .f32) : FVec Ideal S10000x256 .f32 :=
  addf (Host.dotGeneral dot_S10000x256_S256x256_S10000x256_1_0_0_1_n_n none x (transpose S256x256 [1, 0] w transposes_S256x256_S256x256_1_0)) (broadcastInDim S10000x256 ![0, 1] bcast_S1x256_S10000x256_0_1 (broadcastInDim S1x256 ![1] bcast_S256_S1x256_1 b))

/-- The clipped and wrapped ids the counts are taken at. -/
def wrapped (a : IVec S10000 32) : IVec S10000x1 32 :=
  broadcastInDim S10000x1 ![0] bcast_S10000_S10000x1_0 (select (cmpi .slt (maxsi (broadcastInDim S10000 ![] bcast_S_S10000 (id (constantI S_ 32 0#32))) a) (broadcastInDim S10000 ![] bcast_S_S10000 (constantI S_ 32 0#32))) (addi (maxsi (broadcastInDim S10000 ![] bcast_S_S10000 (id (constantI S_ 32 0#32))) a) (broadcastInDim S10000 ![] bcast_S_S10000 (constantI S_ 32 64#32))) (maxsi (broadcastInDim S10000 ![] bcast_S_S10000 (id (constantI S_ 32 0#32))) a))

/-- The counts. -/
def counts (a : IVec S10000 32) : IVec S64 32 :=
  Host.scatter scatter_S64_S10000x1_S10000_n_0_0_1 IntOp.addi (broadcastInDim S64 ![] bcast_S_S64 (constantI S_ 32 0#32)) (wrapped a) (broadcastInDim S10000 ![] bcast_S_S10000 (constantI S_ 32 1#32))

/-- The sums. -/
def sums (h : FVec Ideal S10000x256 .f32) (a : IVec S10000 32) : FVec Ideal S64x256 .f32 :=
  Host.scatterAdd scatter_S64x256_S10000x1_S10000x256_1_0_0_1 (broadcastInDim S64x256 ![] bcast_S_S64x256 (constant S_ .f32 0x00000000#32)) (broadcastInDim S10000x1 ![0] bcast_S10000_S10000x1_0 a) h

/-- The maxima. -/
def maxima (h : FVec Ideal S10000x256 .f32) (a : IVec S10000 32) : FVec Ideal S64x256 .f32 :=
  Host.reduce FloatOps.maximumf (select (broadcastInDim S64x10000x256 ![0, 1, 2] bcast_S64x10000x1_S64x10000x256_0_1_2 (broadcastInDim S64x10000x1 ![0, 1] bcast_S64x10000_S64x10000x1_0_1 (cmpi .eq (broadcastInDim S64x10000 ![0, 1] bcast_S1x10000_S64x10000_0_1 (broadcastInDim S1x10000 ![1] bcast_S10000_S1x10000_1 a)) (broadcastInDim S64x10000 ![0, 1] bcast_S64x1_S64x10000_0_1 (broadcastInDim S64x1 ![0] bcast_S64_S64x1_0 (iotaInDim S64 32 0)))))) (broadcastInDim S64x10000x256 ![0, 1, 2] bcast_S1x10000x256_S64x10000x256_0_1_2 (broadcastInDim S1x10000x256 ![1, 2] bcast_S10000x256_S1x10000x256_1_2 h)) (broadcastInDim S64x10000x256 ![] bcast_S_S64x10000x256 (id (constant S_ .f32 0xFF800000#32)))) (constant S_ .f32 0xFF800000#32) reducesTo_S64x10000x256_S64x256_d1 h_S_

/-- The three pooled features side by side. -/
def features (h : FVec Ideal S10000x256 .f32) (a : IVec S10000 32) : FVec Ideal S64x768 .f32 :=
  concatenate S64x768 1 [⟨S64x256, Host.divf (sums h a) (broadcastInDim S64x256 ![0, 1] bcast_S64x1_S64x256_0_1 (broadcastInDim S64x1 ![0] bcast_S64_S64x1_0 (maximumf (sitofp .f32 (counts a)) (broadcastInDim S64 ![] bcast_S_S64 (constant S_ .f32 0x3F800000#32)))))⟩, ⟨S64x256, maxima h a⟩, ⟨S64x256, sums h a⟩] concatenates_S64x256_S64x256_S64x256_S64x768_d1

/-- The classifier on the pooled features. -/
def classify (p : FVec Ideal S64x768 .f32) (a5 : FVec Ideal S256x768 .f32) (a6 : FVec Ideal S256 .f32) (a7 : FVec Ideal S128x256 .f32)
    (a8 : FVec Ideal S128 .f32) (a9 : FVec Ideal S2x128 .f32) (a10 : FVec Ideal S2 .f32) : FVec Ideal S64x2 .f32 :=
  addf (Host.dotGeneral dot_S64x128_S128x2_S64x2_1_0_0_1_n_n none (maximumf (addf (Host.dotGeneral dot_S64x256_S256x128_S64x128_1_0_0_1_n_n none (maximumf (addf (Host.dotGeneral dot_S64x768_S768x256_S64x256_1_0_0_1_n_n none p (transpose S768x256 [1, 0] a5 transposes_S256x768_S768x256_1_0)) (broadcastInDim S64x256 ![0, 1] bcast_S1x256_S64x256_0_1 (broadcastInDim S1x256 ![1] bcast_S256_S1x256_1 a6))) (broadcastInDim S64x256 ![] bcast_S_S64x256 (constant S_ .f32 0x00000000#32))) (transpose S256x128 [1, 0] a7 transposes_S128x256_S256x128_1_0)) (broadcastInDim S64x128 ![0, 1] bcast_S1x128_S64x128_0_1 (broadcastInDim S1x128 ![1] bcast_S128_S1x128_1 a8))) (broadcastInDim S64x128 ![] bcast_S_S64x128 (constant S_ .f32 0x00000000#32))) (transpose S128x2 [1, 0] a9 transposes_S2x128_S128x2_1_0)) (broadcastInDim S64x2 ![0, 1] bcast_S1x2_S64x2_0_1 (broadcastInDim S1x2 ![1] bcast_S2_S1x2_1 a10))

/-- The reference's result is the classifier on the pooled features of the rows. -/
theorem result_eq (m : (ℓ : Loc nD τ sig) → Buf (Elt Ideal) ℓ) (c : Dev nD) :
    Cert.ReferenceIdeal.Value.res_main_v51 m c
      = classify (features (hidden (m ((c.tc : Thread nD τ).loc main_arg0)) (m ((c.tc : Thread nD τ).loc main_arg3)) (m ((c.tc : Thread nD τ).loc main_arg4)))
          (m ((c.tc : Thread nD τ).loc main_arg2)))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := rfl

/-! ## Where an update lands -/

/-- An update of the counts starts at its id. -/
theorem count_start (idx : IVec S10000x1 32) (j : S10000.Idx) :
    (scatter_S64_S10000x1_S10000_n_0_0_1).start j idx 0 = (idx (ix2 (j 0) 0)).toInt := by
  unfold ScatterDims.start
  rw [dif_pos (by decide)]
  refine congrArg (fun i => (idx i).toInt) (funext fun a => ?_)
  match a with
  | ⟨0, _⟩ => rfl
  | ⟨1, _⟩ => exact Subsingleton.elim (α := Fin 1) _ _

/-- An update of the counts lands at the graph its id names. -/
theorem count_lands (idx : IVec S10000x1 32) (j : S10000.Idx) (g : Fin 64) :
    (scatter_S64_S10000x1_S10000_n_0_0_1).resultIdx? j idx = some (ix1 g) ↔ (idx (ix2 (j 0) 0)).toInt = (g.val : ℤ) := by
  rw [Routing.resultIdx?_eq_some]
  have w : (scatter_S64_S10000x1_S10000_n_0_0_1).window j 0 = 0 := by
    unfold ScatterDims.window
    rw [dif_neg (by decide)]
  constructor
  · intro h
    have h0 := h 0
    rw [count_start, w] at h0
    have e : ((ix1 g : S64.Idx) 0).val = g.val := rfl
    rw [e] at h0
    omega
  · intro h a
    match a with
    | ⟨0, _⟩ =>
      show (scatter_S64_S10000x1_S10000_n_0_0_1).start j idx 0 + ((scatter_S64_S10000x1_S10000_n_0_0_1).window j 0 : ℤ) = (g.val : ℤ)
      rw [count_start, w]
      omega

/-- An update of the sums starts at its id. -/
theorem sum_start (idx : IVec S10000x1 32) (j : S10000x256.Idx) :
    (scatter_S64x256_S10000x1_S10000x256_1_0_0_1).start j idx 0 = (idx (ix2 (j 0) 0)).toInt := by
  unfold ScatterDims.start
  rw [dif_pos (by decide)]
  refine congrArg (fun i => (idx i).toInt) (funext fun a => ?_)
  match a with
  | ⟨0, _⟩ => rfl
  | ⟨1, _⟩ => exact Subsingleton.elim (α := Fin 1) _ _

/-- An update of the sums lands at the graph its id names, in its own column. -/
theorem sum_lands (idx : IVec S10000x1 32) (j : S10000x256.Idx) (g : Fin 64) (l : Fin 256) :
    (scatter_S64x256_S10000x1_S10000x256_1_0_0_1).resultIdx? j idx = some (ix2 g l) ↔ (idx (ix2 (j 0) 0)).toInt = (g.val : ℤ) ∧ j 1 = l := by
  rw [Routing.resultIdx?_eq_some]
  have w : (scatter_S64x256_S10000x1_S10000x256_1_0_0_1).window j 0 = 0 := by
    unfold ScatterDims.window
    rw [dif_neg (by decide)]
  have w1 : (scatter_S64x256_S10000x1_S10000x256_1_0_0_1).window j 1 = (j 1).val := by
    unfold ScatterDims.window
    rw [dif_pos (by decide)]
    rfl
  have s1 : (scatter_S64x256_S10000x1_S10000x256_1_0_0_1).start j idx 1 = 0 := by
    unfold ScatterDims.start
    rw [dif_neg (by decide)]
  constructor
  · intro h
    have h0 := h 0
    have h1 := h 1
    rw [sum_start, w] at h0
    rw [s1, w1] at h1
    have e : ((ix2 g l : S64x256.Idx) 0).val = g.val := rfl
    have e1 : ((ix2 g l : S64x256.Idx) 1).val = l.val := rfl
    rw [e] at h0
    rw [e1] at h1
    exact ⟨by omega, Fin.ext (by omega)⟩
  · intro h a
    match a with
    | ⟨0, _⟩ =>
      show (scatter_S64x256_S10000x1_S10000x256_1_0_0_1).start j idx 0 + ((scatter_S64x256_S10000x1_S10000x256_1_0_0_1).window j 0 : ℤ) = (g.val : ℤ)
      rw [sum_start, w]
      omega
    | ⟨1, _⟩ =>
      show (scatter_S64x256_S10000x1_S10000x256_1_0_0_1).start j idx 1 + ((scatter_S64x256_S10000x1_S10000x256_1_0_0_1).window j 1 : ℤ) = (l.val : ℤ)
      rw [s1, w1, h.2]
      omega

/-! ## Counting -/

/-- Adding one at every hit counts the hits. -/
theorem fold_hits {α : Type} (P : α → Prop) [DecidablePred P] (l : List α) (z : ℕ) :
    l.foldl (fun a n => if P n then IntOp.addi a 1#32 else a) (BitVec.ofNat 32 z) = BitVec.ofNat 32 (z + l.countP fun n => decide (P n)) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih, if_pos (decide_eq_true h)]
      congr 1
      omega
    · rw [if_neg h, ih, if_neg (by rw [decide_eq_false h]; exact Bool.false_ne_true), Nat.add_zero]

/-- The hits in the row-major order of a vector are the hits among its rows. -/
theorem hits_rows (P : S10000.Idx → Prop) [DecidablePred P] :
    ((List.finRange S10000.numel).countP fun n => decide (P (S10000.rowMajor.symm n))) = (Finset.univ.filter fun n : Fin 10000 => P (ix1 n)).card := by
  have e1 : ((List.finRange S10000.numel).countP fun n => decide (P (S10000.rowMajor.symm n)))
      = (Finset.univ.filter fun n : Fin S10000.numel => P (S10000.rowMajor.symm n)).card := by
    rw [List.countP_eq_length_filter]
    rfl
  rw [e1]
  refine Finset.card_bij (fun n _ => (S10000.rowMajor.symm n) 0) (fun n hn => ?_) (fun a _ b _ h => ?_) fun n hn => ?_
  · have e : ix1 ((S10000.rowMajor.symm n) 0) = S10000.rowMajor.symm n := funext fun a => by
      match a with | ⟨0, _⟩ => rfl
    exact Finset.mem_filter.2 ⟨Finset.mem_univ _, (congrArg P e).mpr (Finset.mem_filter.1 hn).2⟩
  · exact S10000.rowMajor.symm.injective (funext fun i => by match i with | ⟨0, _⟩ => exact h)
  · refine ⟨S10000.rowMajor (ix1 n), Finset.mem_filter.2 ⟨Finset.mem_univ _, ?_⟩, ?_⟩
    · rw [Equiv.symm_apply_apply]; exact (Finset.mem_filter.1 hn).2
    · rw [Equiv.symm_apply_apply]; rfl

/-! ## The reference's pooled features -/

/-- The features of a row. -/
theorem hidden_apply (x : FVec Ideal S10000x256 .f32) (w : FVec Ideal S256x256 .f32) (b : FVec Ideal S256 .f32) (n : Fin 10000) (l : Fin 256) :
    hidden x w b (ix2 n l) = ∑ i : Fin 256, x (ix2 n i) * w (ix2 l i) + b (ix1 l) := by
  pointwise [hidden]

section Pool

variable {a : IVec S10000 32} (hpos : ∀ n, (a (ix1 n)).toNat < 2 ^ 31)

include hpos in
/-- An id that is not negative is kept by the clip and the wrap. -/
theorem wrapped_apply (n : Fin 10000) : wrapped a (ix2 n 0) = a (ix1 n) := by
  have e : wrapped a (ix2 n 0) = Scalar.select (IntOp.cmpi .slt (IntOp.maxsi 0#32 (a (ix1 n))) 0#32)
      (IntOp.addi (IntOp.maxsi 0#32 (a (ix1 n))) 64#32) (IntOp.maxsi 0#32 (a (ix1 n))) := by
    pointwise [wrapped]
    rfl
  have hm : IntOp.maxsi 0#32 (a (ix1 n)) = a (ix1 n) := by
    have h1 : (a (ix1 n)).toInt = ((a (ix1 n)).toNat : ℤ) := BitVec.toInt_eq_toNat_of_lt (by have := hpos n; omega)
    have hs : (a (ix1 n)).slt 0#32 = false := by rw [BitVec.slt, h1]; exact decide_eq_false (by simp)
    by_cases hz : a (ix1 n) = 0#32
    · rw [hz]; rfl
    · have hs' : (0#32 : BitVec 32).slt (a (ix1 n)) = true := by
        rw [BitVec.slt, h1]
        refine decide_eq_true ?_
        have : (a (ix1 n)).toNat ≠ 0 := fun h => hz (BitVec.eq_of_toNat_eq h)
        show (0 : ℤ) < _
        omega
      simp [IntOp.maxsi, hs, hs']
  rw [e, hm]
  exact Routing.wrap_of_lt _ _ (hpos n)

include hpos in
/-- The counts. -/
theorem counts_apply (g : Fin 64) : counts a (ix1 g) = BitVec.ofNat 32 (size (fun n => (a (ix1 n)).toNat) g.val) := by
  unfold counts
  rw [Routing.scatter_at]
  have e0 : broadcastInDim S64 ![] bcast_S_S64 (constantI S_ 32 0#32) (ix1 g) = BitVec.ofNat 32 0 := rfl
  have e1 : ∀ j, broadcastInDim S10000 ![] bcast_S_S10000 (constantI S_ 32 1#32) j = 1#32 := fun j => rfl
  simp only [e0, e1]
  rw [fold_hits (fun n => (scatter_S64_S10000x1_S10000_n_0_0_1).resultIdx? (S10000.rowMajor.symm n) (wrapped a) = some (ix1 g)), Nat.zero_add]
  refine congrArg (BitVec.ofNat 32) ((hits_rows fun j => (scatter_S64_S10000x1_S10000_n_0_0_1).resultIdx? j (wrapped a) = some (ix1 g)).trans ?_)
  unfold size
  refine congrArg Finset.card (Finset.filter_congr fun n _ => ?_)
  rw [count_lands]
  show (wrapped a (ix2 n 0)).toInt = _ ↔ _
  rw [wrapped_apply hpos, BitVec.toInt_eq_toNat_of_lt (by have := hpos n; omega)]
  exact Int.ofNat_inj

include hpos in
/-- The counts as numbers. -/
theorem counts_real (g : Fin 64) :
    FloatOps.sitofp (F := Ideal) .f32 (counts a (ix1 g)) = ((size (fun n => (a (ix1 n)).toNat) g.val : ℕ) : EReal) := by
  rw [counts_apply hpos]
  have hs := size_le (fun n : Fin 10000 => (a (ix1 n)).toNat) g.val
  have ht : (BitVec.ofNat 32 (size (fun n : Fin 10000 => (a (ix1 n)).toNat) g.val)).toNat = size (fun n : Fin 10000 => (a (ix1 n)).toNat) g.val := by
    rw [BitVec.toNat_ofNat, Nat.mod_eq_of_lt (by omega)]
  show (((BitVec.ofNat 32 (size (fun n : Fin 10000 => (a (ix1 n)).toNat) g.val)).toInt : ℝ) : EReal) = _
  rw [BitVec.toInt_eq_toNat_of_lt (by rw [ht]; omega), ht]
  simp

include hpos in
/-- The sums. -/
theorem sums_apply (h : FVec Ideal S10000x256 .f32) (g : Fin 64) (l : Fin 256) :
    sums h a (ix2 g l) = total (fun n => (a (ix1 n)).toNat) (fun n l => h (ix2 n l)) g l := by
  have hd : sums h a (ix2 g l) = broadcastInDim S64x256 ![] bcast_S_S64x256 (constant (F := Ideal) S_ .f32 0x00000000#32) (ix2 g l)
      + ∑ j ∈ Finset.univ.filter (fun j => (scatter_S64x256_S10000x1_S10000x256_1_0_0_1).resultIdx? j
          (broadcastInDim S10000x1 ![0] bcast_S10000_S10000x1_0 a) = some (ix2 g l)), h j := rfl
  have hz : broadcastInDim S64x256 ![] bcast_S_S64x256 (constant (F := Ideal) S_ .f32 0x00000000#32) (ix2 g l) = 0 := by
    pointwise
  have hb : ∀ n : Fin 10000, broadcastInDim S10000x1 ![0] bcast_S10000_S10000x1_0 a (ix2 n 0) = a (ix1 n) := fun n => by
    pointwise
  rw [hd, hz, zero_add]
  unfold total
  rw [← Finset.sum_filter]
  have hk : ∀ n : Fin 10000, (a (ix1 n)).toInt = (g.val : ℤ) ↔ (a (ix1 n)).toNat = g.val := fun n => by
    rw [BitVec.toInt_eq_toNat_of_lt (by have := hpos n; omega)]
    exact Int.ofNat_inj
  refine Finset.sum_bij' (fun j _ => j 0) (fun n _ => ix2 n l) (fun j hj => ?_) (fun n hn => ?_) (fun j hj => ?_) (fun n hn => rfl) fun j hj => ?_
  · have := (sum_lands _ _ _ _).1 (Finset.mem_filter.1 hj).2
    exact Finset.mem_filter.2 ⟨Finset.mem_univ _, (hk (j 0)).1 ((congrArg BitVec.toInt (hb (j 0))).symm.trans this.1)⟩
  · refine Finset.mem_filter.2 ⟨Finset.mem_univ _, (sum_lands _ _ _ _).2 ⟨?_, rfl⟩⟩
    show (broadcastInDim S10000x1 ![0] bcast_S10000_S10000x1_0 a (ix2 n 0)).toInt = _
    rw [hb]
    exact (hk n).2 (Finset.mem_filter.1 hn).2
  · have := (sum_lands _ _ _ _).1 (Finset.mem_filter.1 hj).2
    funext i
    match i with
    | ⟨0, _⟩ => rfl
    | ⟨1, _⟩ => exact this.2.symm
  · have := (sum_lands _ _ _ _).1 (Finset.mem_filter.1 hj).2
    refine congrArg h (funext fun i => ?_)
    match i with
    | ⟨0, _⟩ => rfl
    | ⟨1, _⟩ => exact this.2

/-- The maxima. -/
theorem maxima_apply (h : FVec Ideal S10000x256 .f32) (g : Fin 64) (l : Fin 256) :
    maxima h a (ix2 g l) = top (fun n => (a (ix1 n)).toNat) (fun n l => h (ix2 n l)) g l := by
  have e : maxima h a (ix2 g l) = Finset.fold max (Ideal.ofBits .f32 4286578688#32) (fun x : Fin 10000 =>
      Scalar.select (IntOp.cmpi .eq (a (ix1 x)) (BitVec.ofNat 32 g.val)) (h (ix2 x l)) (Ideal.ofBits .f32 4286578688#32)) Finset.univ := by
    pointwise [maxima]
    rfl
  rw [e, ofBits_neg_inf]
  unfold top
  refine Finset.fold_congr fun n _ => ?_
  show (if IntOp.cmpi .eq (a (ix1 n)) (BitVec.ofNat 32 g.val) = 1#1 then h (ix2 n l) else ⊥) = _
  exact if_congr ((eq_flag _ _).trans (Global.word_eq _ (by have := g.isLt; omega))) rfl rfl

include hpos in
/-- The reference's pooled features are the mean, the maximum and the sum over the rows of each graph. -/
theorem features_apply (h : FVec Ideal S10000x256 .f32) (g : Fin 64) (l : Fin 768) :
    features h a (ix2 g l) = pooled (fun n => (a (ix1 n)).toNat) (fun n l => h (ix2 n l)) g l := by
  have e : features h a (ix2 g l)
      = if h1 : l.val < 256 then Ideal.div (sums h a (ix2 g ⟨l.val, h1⟩)) (max (FloatOps.sitofp (F := Ideal) .f32 (counts a (ix1 g))) 1)
        else if h2 : l.val - 256 < 256 then maxima h a (ix2 g ⟨l.val - 256, h2⟩)
        else sums h a (ix2 g ⟨l.val - 256 - 256, by have := l.isLt; omega⟩) := by
    pointwise [features]
  rw [e, counts_real hpos]
  unfold pooled
  simp only [sums_apply hpos, maxima_apply]

end Pool

/-- The classifier, read at one position. -/
theorem classify_apply (p : FVec Ideal S64x768 .f32) (a5 : FVec Ideal S256x768 .f32) (a6 : FVec Ideal S256 .f32) (a7 : FVec Ideal S128x256 .f32)
    (a8 : FVec Ideal S128 .f32) (a9 : FVec Ideal S2x128 .f32) (a10 : FVec Ideal S2 .f32) (g : Fin 64) (l : Fin 2) :
    classify p a5 a6 a7 a8 a9 a10 (ix2 g l)
      = ∑ x : Fin 128, max (∑ y : Fin 256, max (∑ z : Fin 768, p (ix2 g z) * a5 (ix2 y z) + a6 (ix1 y)) 0 * a7 (ix2 x y) + a8 (ix1 x)) 0 * a9 (ix2 l x)
        + a10 (ix1 l) := by
  pointwise [classify]

end Cert.Proof.Reference

end
-- ==== Proof.Equation.lean ====
module

public import proofs.«01_k».proof.Proof.Value
public import proofs.«01_k».proof.Proof.Reference

@[expose] public section

set_option maxRecDepth 16384

/-! # The kernel's result is the reference's -/

noncomputable section

namespace Cert.Proof.Equation

open Idealize.ShloMosaic Idealize.ShloMosaic.TcCoe Cert.KernelIdeal Cert.KernelIdeal.Gen Cert.KernelIdeal.Run Cert.Proof.Pooled

section Arrays

variable (a0 : FVec Ideal S10000x256 .f32) (a2 : IVec S10000 32) (a3 : FVec Ideal S256x256 .f32) (a4 : FVec Ideal S256 .f32)
  (a5 : FVec Ideal S256x768 .f32) (a6 : FVec Ideal S256 .f32) (a7 : FVec Ideal S128x256 .f32) (a8 : FVec Ideal S128 .f32) (a9 : FVec Ideal S2x128 .f32)
  (a10 : FVec Ideal S2 .f32)

/-- For nonnegative ids in order, the kernel on the arrays that its host code lays out computes the classifier on the pooled features. -/
theorem out_eq (hmono : Monotone fun n : Fin 10000 => (a2 (ix1 n)).toNat) (hpos : ∀ n : Fin 10000, (a2 (ix1 n)).toNat < 2 ^ 31) :
    Value.out a0 (shapeCast S10000x1 a2 shapeCasts_S10000_S10000x1) (shapeCast S1x10000 a2 shapeCasts_S10000_S1x10000) a3 a5 (Pack.pack a7 a9 a4 a6 a8 a10)
      = Reference.classify (Reference.features (Reference.hidden a0 a3 a4) a2) a5 a6 a7 a8 a9 a10 := by
  funext i
  obtain ⟨g, l, rfl⟩ : ∃ (g : Fin 64) (l : Fin 2), i = ix2 g l := ⟨i 0, i 1, by funext a; fin_cases a <;> rfl⟩
  have hrow : (fun (n : Fin 10000) (l : Fin 256) => k0_pay3 (F := Ideal) (Pack.pack a7 a9 a4 a6 a8 a10) a0 a3 (ix2 n l))
      = fun n l => Reference.hidden a0 a3 a4 (ix2 n l) := by
    funext n l
    rw [Value.row_apply, Pack.pack_bias, Reference.hidden_apply]
  refine (Value.classify_apply _ _ _ g l).trans (Eq.trans ?_ (Reference.classify_apply _ a5 a6 a7 a8 a9 a10 g l).symm)
  simp only [Pack.pack_second, Pack.pack_third, Pack.pack_bias1, Pack.pack_bias2, Pack.pack_bias3, Reference.features_apply hpos,
    pooled_apply hmono hpos (Pack.row_apply a2) (Pack.column_apply a2), hrow]

end Arrays

/-- What the kernel leaves in its result array. -/
theorem kernel_eq (m : (ℓ : Loc nD τ sig) → Buf (Elt Ideal) ℓ) (c : Dev nD)
    (hmono : Monotone fun n : Fin 10000 => ((m ((c.tc : Thread nD τ).loc main_arg2)) (ix1 n)).toNat) (hpos : ∀ n : Fin 10000, ((m ((c.tc : Thread nD τ).loc main_arg2)) (ix1 n)).toNat < 2 ^ 31) :
    (dats m 0 c).arrAt 6 cfg0.N = Reference.classify (Reference.features (Reference.hidden (m ((c.tc : Thread nD τ).loc main_arg0)) (m ((c.tc : Thread nD τ).loc main_arg3)) (m ((c.tc : Thread nD τ).loc main_arg4))) (m ((c.tc : Thread nD τ).loc main_arg2)))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Value.array_eq, Pack.V_column, Pack.V_row, Pack.V_pack, V_kept m c main_arg0 (by decide), V_kept m c main_arg3 (by decide), V_kept m c main_arg5 (by decide)]
  exact out_eq _ _ _ _ _ _ _ _ _ _ hmono hpos

end Cert.Proof.Equation

end
-- ==== Proof.Precondition.lean ====
module

public import proofs.«01_k».proof.Proof.Gen.Pre_sorted_ids
public import proofs.«01_k».proof.Proof.Numbers
public import Idealize.ShloMosaic.Lib.ReduceAll
public import Idealize.ShloMosaic.Lib.Pointwise

@[expose] public section

set_option maxRecDepth 16384

/-! # What the precondition gives: the ids are nonnegative and in order -/

noncomputable section

namespace Cert.Proof.Precondition

open Idealize.ShloMosaic Cert.Pre_sorted_ids Cert.Proof.Numbers

attribute [local instance] Cert.Pre_sorted_ids.Gen.facts

instance : Subsingleton S_.Idx := ⟨fun _ _ => funext fun a => a.elim0⟩

/-- A word that is at least zero as a signed number is below `2 ^ 31` as an unsigned one. -/
theorem small_of_sge (v : BitVec 32) (h : IntOp.cmpi .sge v 0#32 = 1#1) : v.toNat < 2 ^ 31 := by
  have h' : (0#32).sle v = true := by
    by_contra hn
    rw [Bool.not_eq_true] at hn
    exact absurd h (by rw [show IntOp.cmpi .sge v 0#32 = BitVec.ofBool ((0#32).sle v) from rfl, hn]; decide)
  have := v.isLt
  rw [BitVec.sle_iff_toInt_le, BitVec.toInt_eq_toNat_cond, BitVec.toInt_eq_toNat_cond] at h'
  simp at h'
  split at h' <;> omega

/-- Two small words in signed order are in unsigned order. -/
theorem le_of_sle (v w : BitVec 32) (hv : v.toNat < 2 ^ 31) (hw : w.toNat < 2 ^ 31) (h : IntOp.cmpi .sle v w = 1#1) : v.toNat ≤ w.toNat := by
  have h' : v.sle w = true := by
    by_contra hn
    rw [Bool.not_eq_true] at hn
    exact absurd h (by rw [show IntOp.cmpi .sle v w = BitVec.ofBool (v.sle w) from rfl, hn]; decide)
  rw [BitVec.sle_iff_toInt_le, BitVec.toInt_eq_toNat_cond, BitVec.toInt_eq_toNat_cond] at h'
  split at h' <;> split at h' <;> omega

variable (a0 : FVec Ideal S10000x256 .f32) (a1 : IVec S2x160000 32) (b : IVec S10000 32) (a3 : FVec Ideal S256x256 .f32) (a4 : FVec Ideal S256 .f32)
  (a5 : FVec Ideal S256x768 .f32) (a6 : FVec Ideal S256 .f32) (a7 : FVec Ideal S128x256 .f32) (a8 : FVec Ideal S128 .f32) (a9 : FVec Ideal S2x128 .f32)
  (a10 : FVec Ideal S2 .f32)

/-- Every id is nonnegative. -/
theorem nonneg (h : fn a0 a1 b a3 a4 a5 a6 a7 a8 a9 a10 = fun _ => 1#1) (n : Fin 10000) : (b (ix1 n)).toNat < 2 ^ 31 := by
  have e := ((and_flag _ _).1 (congrFun h ix0)).1
  exact small_of_sge _ (Host.reduce_andi_all _ _ _ _ _ e (ix1 n))

/-- Each id is at most the next one. -/
theorem step (h : fn a0 a1 b a3 a4 a5 a6 a7 a8 a9 a10 = fun _ => 1#1) (n : Fin 9999) : (b (ix1 n.castSucc)).toNat ≤ (b (ix1 n.succ)).toNat := by
  have e := ((and_flag _ _).1 (congrFun h ix0)).2
  have hn := Host.reduce_andi_all _ _ _ _ _ e (ix1 n)
  refine le_of_sle _ _ (nonneg a0 a1 b a3 a4 a5 a6 a7 a8 a9 a10 h _) (nonneg a0 a1 b a3 a4 a5 a6 a7 a8 a9 a10 h _) ?_
  refine Eq.trans (congrArg₂ (IntOp.cmpi .sle) (congrArg b ?_) (congrArg b ?_)) hn
  · funext a
    fin_cases a
    exact Fin.ext (Nat.zero_add _).symm
  · funext a
    fin_cases a
    exact Fin.ext (Nat.add_comm _ _)

/-- The ids do not decrease. -/
theorem monotone (h : fn a0 a1 b a3 a4 a5 a6 a7 a8 a9 a10 = fun _ => 1#1) : Monotone fun n : Fin 10000 => (b (ix1 n)).toNat :=
  Fin.monotone_iff_le_succ.2 (step a0 a1 b a3 a4 a5 a6 a7 a8 a9 a10 h)

end Cert.Proof.Precondition

end
-- ==== Proof.lean ====
module

public import proofs.«01_k».proof.Defs
public import proofs.«01_k».proof.Proof.BitsRun
public import proofs.«01_k».proof.Proof.Equation
public import proofs.«01_k».proof.Proof.Precondition
public import Idealize.ShloMosaic.Lib.Quiescent

@[expose] public section

set_option maxRecDepth 16384

noncomputable section

namespace Cert.Proof

open Idealize.ShloMosaic Idealize.SL.Sem

/-- The reference's frame: it runs, keeps its arguments, and uses no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

/-- The two results are equal. -/
theorem equal : Cert.algebraic_KernelIdeal_ReferenceIdeal_pre_sorted_ids (hKernelIdeal := Cert.KernelIdeal.Gen.facts)
    (hReferenceIdeal := Cert.ReferenceIdeal.Gen.facts) (hPre_sorted_ids := Cert.Pre_sorted_ids.Gen.facts) := by
  intro m ρ m' ρ' hpre hargs
  refine ⟨_, (θ_run Cert.KernelIdeal.defs _ _).mono (fun r h => h.1) (Cert.KernelIdeal.Run.run_value m ρ), ?_⟩
  refine (θ_run Cert.ReferenceIdeal.defs _ _).mono (fun r h c => ⟨(h c).1.trans ?_, (h c).2⟩) (Cert.ReferenceIdeal.Value.run m' ρ')
  obtain ⟨h0, -, h2, h3, h4, h5, h6, h7, h8, h9, h10⟩ := hargs c
  refine Eq.trans ?_ (Equation.kernel_eq m c (Precondition.monotone _ _ _ _ _ _ _ _ _ _ _ (hpre c)) (Precondition.nonneg _ _ _ _ _ _ _ _ _ _ _ (hpre c))).symm
  rw [Reference.result_eq, h0, h2, h3, h4, h5, h6, h7, h8, h9, h10]

theorem claim : Cert.Claim :=
  ⟨Cert.Kernel.Gen.facts, Cert.KernelIdeal.Gen.facts, Cert.ReferenceIdeal.Gen.facts, Cert.Pre_sorted_ids.Gen.facts,
    fun m ρ _ => Cert.Kernel.Run.frame m ρ, fun m ρ _ => Cert.KernelIdeal.Run.frame m ρ, fun m ρ _ => Cert.KernelIdeal.Run.frame m ρ,
    reference_frame, fun m ρ _ => reference_frame m ρ trivial,
    IdealRules.named_const.statement Cert.KernelIdeal.κ "sent" .bf16 _ ⊥ rfl, equal⟩

end Cert.Proof

end
